-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routes_fit_KernelIdeal [hPre_routes_fit_KernelIdeal : Cert.Pre_routes_fit_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routes_fit_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routes_fit_ReferenceIdeal [hPre_routes_fit_ReferenceIdeal : Cert.Pre_routes_fit_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routes_fit_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_routes_fit_KernelIdeal [hKernelIdeal : Cert.KernelIdeal.Facts] [hPre_routes_fit_KernelIdeal : Cert.Pre_routes_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routes_fit_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_routes_fit_ReferenceIdeal [hReferenceIdeal : Cert.ReferenceIdeal.Facts] [hPre_routes_fit_ReferenceIdeal : Cert.Pre_routes_fit_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routes_fit_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_routes_fit_KernelIdeal [hKernelIdeal : Cert.KernelIdeal.Facts] [hReferenceIdeal : Cert.ReferenceIdeal.Facts] [hPre_routes_fit_KernelIdeal : Cert.Pre_routes_fit_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routes_fit_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_routes_fit_KernelIdeal : Cert.Pre_routes_fit_KernelIdeal.Facts) (hPre_routes_fit_ReferenceIdeal : Cert.Pre_routes_fit_ReferenceIdeal.Facts),
    quiescent_Kernel (hKernel := hKernel)
    ∧ quiescent_KernelIdeal (hKernelIdeal := hKernelIdeal)
    ∧ quiescent_KernelIdeal_pre_routes_fit_KernelIdeal (hKernelIdeal := hKernelIdeal) (hPre_routes_fit_KernelIdeal := hPre_routes_fit_KernelIdeal)
    ∧ quiescent_ReferenceIdeal (hReferenceIdeal := hReferenceIdeal)
    ∧ quiescent_ReferenceIdeal_pre_routes_fit_ReferenceIdeal (hReferenceIdeal := hReferenceIdeal) (hPre_routes_fit_ReferenceIdeal := hPre_routes_fit_ReferenceIdeal)
    ∧ preserves_Kernel_KernelIdeal
    ∧ algebraic_KernelIdeal_ReferenceIdeal_pre_routes_fit_KernelIdeal (hKernelIdeal := hKernelIdeal) (hReferenceIdeal := hReferenceIdeal) (hPre_routes_fit_KernelIdeal := hPre_routes_fit_KernelIdeal)
-- ==== Pre_routes_fit_KernelIdeal.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S1024x16 : Shape := ⟨2, ![1024, 16]⟩
abbrev S_ : Shape := ⟨0, ![]⟩
abbrev S16 : Shape := ⟨1, ![16]⟩
abbrev S1x16 : Shape := ⟨2, ![1, 16]⟩
abbrev S1024x64 : Shape := ⟨2, ![1024, 64]⟩
abbrev S1024 : Shape := ⟨1, ![1024]⟩

class Facts : Prop where
  bcast_S_S1024x16 : S_.BroadcastsInDim S1024x16 (![] : Fin 0 → Fin S1024x16.rank)
  bcast_S1024x1_S1024x16_0_1 : S1024x1.BroadcastsInDim S1024x16 (![0, 1] : Fin 2 → Fin S1024x16.rank)
  bcast_S_S1024x1 : S_.BroadcastsInDim S1024x1 (![] : Fin 0 → Fin S1024x1.rank)
  natLt_1_32 : 1 < 32
  reducesTo_S1024x16_S16_d0 : S1024x16.ReducesTo [0] S16
  h_S_ : 0 < S_.numel
  bcast_S16_S1x16_1 : S16.BroadcastsInDim S1x16 (![1] : Fin 1 → Fin S1x16.rank)
  bcast_S_S1x16 : S_.BroadcastsInDim S1x16 (![] : Fin 0 → Fin S1x16.rank)
  reducesTo_S1024x64_S1024_d1 : S1024x64.ReducesTo [1] S1024
  bcast_S1024_S1024x1_0 : S1024.BroadcastsInDim S1024x1 (![0] : Fin 1 → Fin S1024x1.rank)
  bcast_S1x16_S1024x16_0_1 : S1x16.BroadcastsInDim S1024x16 (![0, 1] : Fin 2 → Fin S1024x16.rank)
  dot_S1024x256_S256x64_S1024x64_1_0_0_1_n_n_wf : DotDims.WF S1024x256 S256x64 S1024x64 [1] [0] [0] [1] [] []

variable [Facts]

def dot_S1024x256_S256x64_S1024x64_1_0_0_1_n_n : DotDims S1024x256 S256x64 S1024x64 where
  lhsContracting := [1]
  rhsContracting := [0]
  lhsNonContracting := [0]
  rhsNonContracting := [1]
  lhsBatch := []
  rhsBatch := []
  wf := dot_S1024x256_S256x64_S1024x64_1_0_0_1_n_n_wf
def fn_part1 {F : FTy → Type} [FloatOps F] (main_arg0 : FVec F S1024x256 .f32) (main_arg1 : FVec F S256x64 .f32) (main_v16 : IVec S1024x1 1) (main_v17 : IVec S1024x16 32) (main_c_4 : IVec S_ 32) : IVec S1024x16 1 :=
  let main_v18 : IVec S16 32 := (fun x v => Host.reduce IntOp.addi x v reducesTo_S1024x16_S16_d0 h_S_) main_v17 main_c_4
  let main_v19 : IVec S1x16 32 := broadcastInDim S1x16 ![1] bcast_S16_S1x16_1 main_v18
  let main_c_5 : IVec S_ 32 := constantI S_ 32 128#32
  let main_v20 : IVec S1x16 32 := broadcastInDim S1x16 ![] bcast_S_S1x16 main_c_5
  let main_v21 : IVec S1x16 1 := cmpi .sle main_v19 main_v20
  let main_v22 : FVec F S1024x64 .f32 := (fun l r => Host.dotGeneral dot_S1024x256_S256x64_S1024x64_1_0_0_1_n_n none l r) main_arg0 main_arg1
  let main_cst : FVec F S_ .f32 := constant S_ .f32 0xFF800000#32
  let main_v23 : FVec F S1024 .f32 := (fun x v => Host.reduce FloatOps.maximumf x v reducesTo_S1024x64_S1024_d1 h_S_) main_v22 main_cst
  let main_v24 : FVec F S1024x1 .f32 := broadcastInDim S1024x1 ![0] bcast_S1024_S1024x1_0 main_v23
  let main_v25 : FVec F S1024x1 .f32 := Host.absf main_v24
  let main_cst_6 : FVec F S_ .f32 := constant S_ .f32 0x7F800000#32
  let main_v26 : FVec F S1024x1 .f32 := broadcastInDim S1024x1 ![] bcast_S_S1024x1 main_cst_6
  let main_v27 : IVec S1024x1 1 := cmpf .olt main_v25 main_v26
  let main_v28 : IVec S1024x1 1 := andi main_v16 main_v27
  let main_v29 : IVec S1024x16 1 := broadcastInDim S1024x16 ![0, 1] bcast_S1024x1_S1024x16_0_1 main_v28
  let main_v30 : IVec S1024x16 1 := broadcastInDim S1024x16 ![0, 1] bcast_S1x16_S1024x16_0_1 main_v21
  let main_v31 : IVec S1024x16 1 := andi main_v29 main_v30
  main_v31

def fn {F : FTy → Type} [FloatOps F] (main_arg0 : FVec F S1024x256 .f32) (main_arg1 : FVec F S256x64 .f32) (main_arg2 : IVec S1024x1 32) (main_arg3 : FVec F S4x256x512 .f32) (main_arg4 : FVec F S256x512 .f32) : IVec S1024x16 1 :=
  let main_v0 : IVec S1024x16 32 := iotaInDim S1024x16 32 1
  let main_c : IVec S_ 32 := constantI S_ 32 4#32
  let main_v1 : IVec S1024x16 32 := broadcastInDim S1024x16 ![] bcast_S_S1024x16 main_c
  let main_v2 : IVec S1024x16 32 := muli main_v1 main_v0
  let main_v3 : IVec S1024x16 32 := broadcastInDim S1024x16 ![0, 1] bcast_S1024x1_S1024x16_0_1 main_arg2
  let main_v4 : IVec S1024x16 1 := cmpi .sge main_v3 main_v2
  let main_c_0 : IVec S_ 32 := constantI S_ 32 4#32
  let main_v5 : IVec S1024x16 32 := broadcastInDim S1024x16 ![] bcast_S_S1024x16 main_c_0
  let main_v6 : IVec S1024x16 32 := muli main_v5 main_v0
  let main_c_1 : IVec S_ 32 := constantI S_ 32 4#32
  let main_v7 : IVec S1024x16 32 := broadcastInDim S1024x16 ![] bcast_S_S1024x16 main_c_1
  let main_v8 : IVec S1024x16 32 := addi main_v6 main_v7
  let main_v9 : IVec S1024x16 32 := broadcastInDim S1024x16 ![0, 1] bcast_S1024x1_S1024x16_0_1 main_arg2
  let main_v10 : IVec S1024x16 1 := cmpi .slt main_v9 main_v8
  let main_v11 : IVec S1024x16 1 := andi main_v4 main_v10
  let main_c_2 : IVec S_ 32 := constantI S_ 32 0#32
  let main_v12 : IVec S1024x1 32 := broadcastInDim S1024x1 ![] bcast_S_S1024x1 main_c_2
  let main_v13 : IVec S1024x1 1 := cmpi .sge main_arg2 main_v12
  let main_c_3 : IVec S_ 32 := constantI S_ 32 64#32
  let main_v14 : IVec S1024x1 32 := broadcastInDim S1024x1 ![] bcast_S_S1024x1 main_c_3
  let main_v15 : IVec S1024x1 1 := cmpi .slt main_arg2 main_v14
  let main_v16 : IVec S1024x1 1 := andi main_v13 main_v15
  let main_v17 : IVec S1024x16 32 := (extui 32 · natLt_1_32) main_v11
  let main_c_4 : IVec S_ 32 := constantI S_ 32 0#32
  fn_part1 (F := F) main_arg0 main_arg1 main_v16 main_v17 main_c_4
-- ==== Pre_routes_fit_ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S16384x16 : Shape := ⟨2, ![16384, 16]⟩
abbrev S_ : Shape := ⟨0, ![]⟩
abbrev S16 : Shape := ⟨1, ![16]⟩
abbrev S1x16 : Shape := ⟨2, ![1, 16]⟩
abbrev S16384x64 : Shape := ⟨2, ![16384, 64]⟩
abbrev S16384 : Shape := ⟨1, ![16384]⟩

class Facts : Prop where
  bcast_S_S16384x16 : S_.BroadcastsInDim S16384x16 (![] : Fin 0 → Fin S16384x16.rank)
  bcast_S16384x1_S16384x16_0_1 : S16384x1.BroadcastsInDim S16384x16 (![0, 1] : Fin 2 → Fin S16384x16.rank)
  bcast_S_S16384x1 : S_.BroadcastsInDim S16384x1 (![] : Fin 0 → Fin S16384x1.rank)
  natLt_1_32 : 1 < 32
  reducesTo_S16384x16_S16_d0 : S16384x16.ReducesTo [0] S16
  h_S_ : 0 < S_.numel
  bcast_S16_S1x16_1 : S16.BroadcastsInDim S1x16 (![1] : Fin 1 → Fin S1x16.rank)
  bcast_S_S1x16 : S_.BroadcastsInDim S1x16 (![] : Fin 0 → Fin S1x16.rank)
  reducesTo_S16384x64_S16384_d1 : S16384x64.ReducesTo [1] S16384
  bcast_S16384_S16384x1_0 : S16384.BroadcastsInDim S16384x1 (![0] : Fin 1 → Fin S16384x1.rank)
  bcast_S1x16_S16384x16_0_1 : S1x16.BroadcastsInDim S16384x16 (![0, 1] : Fin 2 → Fin S16384x16.rank)
  dot_S16384x256_S256x64_S16384x64_1_0_0_1_n_n_wf : DotDims.WF S16384x256 S256x64 S16384x64 [1] [0] [0] [1] [] []

variable [Facts]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def fn_part1 {F : FTy → Type} [FloatOps F] (main_arg0 : FVec F S16384x256 .f32) (main_arg1 : FVec F S256x64 .f32) (main_v16 : IVec S16384x1 1) (main_v17 : IVec S16384x16 32) (main_c_4 : IVec S_ 32) : IVec S16384x16 1 :=
  let main_v18 : IVec S16 32 := (fun x v => Host.reduce IntOp.addi x v reducesTo_S16384x16_S16_d0 h_S_) main_v17 main_c_4
  let main_v19 : IVec S1x16 32 := broadcastInDim S1x16 ![1] bcast_S16_S1x16_1 main_v18
  let main_c_5 : IVec S_ 32 := constantI S_ 32 128#32
  let main_v20 : IVec S1x16 32 := broadcastInDim S1x16 ![] bcast_S_S1x16 main_c_5
  let main_v21 : IVec S1x16 1 := cmpi .sle main_v19 main_v20
  let main_v22 : FVec F S16384x64 .f32 := (fun l r => Host.dotGeneral dot_S16384x256_S256x64_S16384x64_1_0_0_1_n_n none l r) main_arg0 main_arg1
  let main_cst : FVec F S_ .f32 := constant S_ .f32 0xFF800000#32
  let main_v23 : FVec F S16384 .f32 := (fun x v => Host.reduce FloatOps.maximumf x v reducesTo_S16384x64_S16384_d1 h_S_) main_v22 main_cst
  let main_v24 : FVec F S16384x1 .f32 := broadcastInDim S16384x1 ![0] bcast_S16384_S16384x1_0 main_v23
  let main_v25 : FVec F S16384x1 .f32 := Host.absf main_v24
  let main_cst_6 : FVec F S_ .f32 := constant S_ .f32 0x7F800000#32
  let main_v26 : FVec F S16384x1 .f32 := broadcastInDim S16384x1 ![] bcast_S_S16384x1 main_cst_6
  let main_v27 : IVec S16384x1 1 := cmpf .olt main_v25 main_v26
  let main_v28 : IVec S16384x1 1 := andi main_v16 main_v27
  let main_v29 : IVec S16384x16 1 := broadcastInDim S16384x16 ![0, 1] bcast_S16384x1_S16384x16_0_1 main_v28
  let main_v30 : IVec S16384x16 1 := broadcastInDim S16384x16 ![0, 1] bcast_S1x16_S16384x16_0_1 main_v21
  let main_v31 : IVec S16384x16 1 := andi main_v29 main_v30
  main_v31

def fn {F : FTy → Type} [FloatOps F] (main_arg0 : FVec F S16384x256 .f32) (main_arg1 : FVec F S256x64 .f32) (main_arg2 : IVec S16384x1 32) (main_arg3 : FVec F S64x256x512 .f32) (main_arg4 : FVec F S256x512 .f32) : IVec S16384x16 1 :=
  let main_v0 : IVec S16384x16 32 := iotaInDim S16384x16 32 1
  let main_c : IVec S_ 32 := constantI S_ 32 4#32
  let main_v1 : IVec S16384x16 32 := broadcastInDim S16384x16 ![] bcast_S_S16384x16 main_c
  let main_v2 : IVec S16384x16 32 := muli main_v1 main_v0
  let main_v3 : IVec S16384x16 32 := broadcastInDim S16384x16 ![0, 1] bcast_S16384x1_S16384x16_0_1 main_arg2
  let main_v4 : IVec S16384x16 1 := cmpi .sge main_v3 main_v2
  let main_c_0 : IVec S_ 32 := constantI S_ 32 4#32
  let main_v5 : IVec S16384x16 32 := broadcastInDim S16384x16 ![] bcast_S_S16384x16 main_c_0
  let main_v6 : IVec S16384x16 32 := muli main_v5 main_v0
  let main_c_1 : IVec S_ 32 := constantI S_ 32 4#32
  let main_v7 : IVec S16384x16 32 := broadcastInDim S16384x16 ![] bcast_S_S16384x16 main_c_1
  let main_v8 : IVec S16384x16 32 := addi main_v6 main_v7
  let main_v9 : IVec S16384x16 32 := broadcastInDim S16384x16 ![0, 1] bcast_S16384x1_S16384x16_0_1 main_arg2
  let main_v10 : IVec S16384x16 1 := cmpi .slt main_v9 main_v8
  let main_v11 : IVec S16384x16 1 := andi main_v4 main_v10
  let main_c_2 : IVec S_ 32 := constantI S_ 32 0#32
  let main_v12 : IVec S16384x1 32 := broadcastInDim S16384x1 ![] bcast_S_S16384x1 main_c_2
  let main_v13 : IVec S16384x1 1 := cmpi .sge main_arg2 main_v12
  let main_c_3 : IVec S_ 32 := constantI S_ 32 64#32
  let main_v14 : IVec S16384x1 32 := broadcastInDim S16384x1 ![] bcast_S_S16384x1 main_c_3
  let main_v15 : IVec S16384x1 1 := cmpi .slt main_arg2 main_v14
  let main_v16 : IVec S16384x1 1 := andi main_v13 main_v15
  let main_v17 : IVec S16384x16 32 := (extui 32 · natLt_1_32) main_v11
  let main_c_4 : IVec S_ 32 := constantI S_ 32 0#32
  fn_part1 (F := F) main_arg0 main_arg1 main_v16 main_v17 main_c_4
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S15x128x384 : Shape := ⟨3, ![15, 128, 384]⟩
abbrev S15x128x512 : Shape := ⟨3, ![15, 128, 512]⟩
abbrev S15 : Shape := ⟨1, ![15]⟩
abbrev S_ : Shape := ⟨0, ![]⟩
abbrev S1024x64 : Shape := ⟨2, ![1024, 64]⟩
abbrev S1024 : Shape := ⟨1, ![1024]⟩
abbrev S1024x16 : Shape := ⟨2, ![1024, 16]⟩
abbrev S1024x1024 : Shape := ⟨2, ![1024, 1024]⟩
abbrev S1024x128 : Shape := ⟨2, ![1024, 128]⟩
abbrev S1024x1920 : Shape := ⟨2, ![1024, 1920]⟩
abbrev S1920x256 : Shape := ⟨2, ![1920, 256]⟩
abbrev S1024x4 : Shape := ⟨2, ![1024, 4]⟩
abbrev S1920x4 : Shape := ⟨2, ![1920, 4]⟩
abbrev S1920x124 : Shape := ⟨2, ![1920, 124]⟩
abbrev S1920x384 : Shape := ⟨2, ![1920, 384]⟩
abbrev S128x384 : Shape := ⟨2, ![128, 384]⟩
abbrev S1x128x384 : Shape := ⟨3, ![1, 128, 384]⟩
abbrev S1 : Shape := ⟨1, ![1]⟩
abbrev S1x256x512 : Shape := ⟨3, ![1, 256, 512]⟩
abbrev S128x256 : Shape := ⟨2, ![128, 256]⟩
abbrev S128x512 : Shape := ⟨2, ![128, 512]⟩
abbrev S128x1 : Shape := ⟨2, ![128, 1]⟩
abbrev S1x128x512 : Shape := ⟨3, ![1, 128, 512]⟩
abbrev S1920x512 : Shape := ⟨2, ![1920, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x256, .f32⟩
  | .hbm, ⟨1, _⟩ => ⟨S256x64, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x64, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S15x128x384, .bf16⟩
  | .local _ .vmem, ⟨7, _⟩ => ⟨S15x128x384, .bf16⟩
  | .local _ .vmem, ⟨8, _⟩ => ⟨S15x128x512, .bf16⟩
  | .local _ .vmem, ⟨9, _⟩ => ⟨S15x128x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_215 : BitVec 32 := 8#32
  let v489 : BitVec 32 := Scalar.addi v2 c8_i32_215
  let c16_i32_216 : BitVec 32 := 16#32
  let v490 : BitVec 32 := Scalar.remsi v489 c16_i32_216
  let c1_i32_221 : BitVec 32 := 1#32
  let v491 : BitVec 32 := Scalar.muli v490 c1_i32_221
  let v492 : BitVec 32 := Scalar.addi c0_i32_222 v491
  v492.toNat
def k0_dev17 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_229 : BitVec 32 := 9#32
  let v505 : BitVec 32 := Scalar.addi v2 c9_i32_229
  let c16_i32_230 : BitVec 32 := 16#32
  let v506 : BitVec 32 := Scalar.remsi v505 c16_i32_230
  let c1_i32_235 : BitVec 32 := 1#32
  let v507 : BitVec 32 := Scalar.muli v506 c1_i32_235
  let v508 : BitVec 32 := Scalar.addi c0_i32_236 v507
  v508.toNat
def k0_dev18 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_243 : BitVec 32 := 7#32
  let v521 : BitVec 32 := Scalar.addi v2 c7_i32_243
  let c16_i32_244 : BitVec 32 := 16#32
  let v522 : BitVec 32 := Scalar.remsi v521 c16_i32_244
  let c1_i32_249 : BitVec 32 := 1#32
  let v523 : BitVec 32 := Scalar.muli v522 c1_i32_249
  let v524 : BitVec 32 := Scalar.addi c0_i32_250 v523
  v524.toNat
def k0_dev19 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_257 : BitVec 32 := 10#32
  let v537 : BitVec 32 := Scalar.addi v2 c10_i32_257
  let c16_i32_258 : BitVec 32 := 16#32
  let v538 : BitVec 32 := Scalar.remsi v537 c16_i32_258
  let c1_i32_263 : BitVec 32 := 1#32
  let v539 : BitVec 32 := Scalar.muli v538 c1_i32_263
  let v540 : BitVec 32 := Scalar.addi c0_i32_264 v539
  v540.toNat
def k0_dev20 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_271 : BitVec 32 := 6#32
  let v553 : BitVec 32 := Scalar.addi v2 c6_i32_271
  let c16_i32_272 : BitVec 32 := 16#32
  let v554 : BitVec 32 := Scalar.remsi v553 c16_i32_272
  let c1_i32_277 : BitVec 32 := 1#32
  let v555 : BitVec 32 := Scalar.muli v554 c1_i32_277
  let v556 : BitVec 32 := Scalar.addi c0_i32_278 v555
  v556.toNat
def k0_dev21 (d0 : Dev nD) : Nat :=
  let c0_i32_292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_285 : BitVec 32 := 11#32
  let v569 : BitVec 32 := Scalar.addi v2 c11_i32_285
  let c16_i32_286 : BitVec 32 := 16#32
  let v570 : BitVec 32 := Scalar.remsi v569 c16_i32_286
  let c1_i32_291 : BitVec 32 := 1#32
  let v571 : BitVec 32 := Scalar.muli v570 c1_i32_291
  let v572 : BitVec 32 := Scalar.addi c0_i32_292 v571
  v572.toNat
def k0_dev22 (d0 : Dev nD) : Nat :=
  let c0_i32_306 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_299 : BitVec 32 := 5#32
  let v585 : BitVec 32 := Scalar.addi v2 c5_i32_299
  let c16_i32_300 : BitVec 32 := 16#32
  let v586 : BitVec 32 := Scalar.remsi v585 c16_i32_300
  let c1_i32_305 : BitVec 32 := 1#32
  let v587 : BitVec 32 := Scalar.muli v586 c1_i32_305
  let v588 : BitVec 32 := Scalar.addi c0_i32_306 v587
  v588.toNat
def k0_dev23 (d0 : Dev nD) : Nat :=
  let c0_i32_320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_313 : BitVec 32 := 12#32
  let v601 : BitVec 32 := Scalar.addi v2 c12_i32_313
  let c16_i32_314 : BitVec 32 := 16#32
  let v602 : BitVec 32 := Scalar.remsi v601 c16_i32_314
  let c1_i32_319 : BitVec 32 := 1#32
  let v603 : BitVec 32 := Scalar.muli v602 c1_i32_319
  let v604 : BitVec 32 := Scalar.addi c0_i32_320 v603
  v604.toNat
def k0_dev24 (d0 : Dev nD) : Nat :=
  let c0_i32_334 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_327 : BitVec 32 := 4#32
  let v617 : BitVec 32 := Scalar.addi v2 c4_i32_327
  let c16_i32_328 : BitVec 32 := 16#32
  let v618 : BitVec 32 := Scalar.remsi v617 c16_i32_328
  let c1_i32_333 : BitVec 32 := 1#32
  let v619 : BitVec 32 := Scalar.muli v618 c1_i32_333
  let v620 : BitVec 32 := Scalar.addi c0_i32_334 v619
  v620.toNat
def k0_dev25 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_341 : BitVec 32 := 13#32
  let v633 : BitVec 32 := Scalar.addi v2 c13_i32_341
  let c16_i32_342 : BitVec 32 := 16#32
  let v634 : BitVec 32 := Scalar.remsi v633 c16_i32_342
  let c1_i32_347 : BitVec 32 := 1#32
  let v635 : BitVec 32 := Scalar.muli v634 c1_i32_347
  let v636 : BitVec 32 := Scalar.addi c0_i32_348 v635
  v636.toNat
def k0_dev26 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_355 : BitVec 32 := 3#32
  let v649 : BitVec 32 := Scalar.addi v2 c3_i32_355
  let c16_i32_356 : BitVec 32 := 16#32
  let v650 : BitVec 32 := Scalar.remsi v649 c16_i32_356
  let c1_i32_361 : BitVec 32 := 1#32
  let v651 : BitVec 32 := Scalar.muli v650 c1_i32_361
  let v652 : BitVec 32 := Scalar.addi c0_i32_362 v651
  v652.toNat
def k0_dev27 (d0 : Dev nD) : Nat :=
  let c0_i32_376 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_369 : BitVec 32 := 14#32
  let v665 : BitVec 32 := Scalar.addi v2 c14_i32_369
  let c16_i32_370 : BitVec 32 := 16#32
  let v666 : BitVec 32 := Scalar.remsi v665 c16_i32_370
  let c1_i32_375 : BitVec 32 := 1#32
  let v667 : BitVec 32 := Scalar.muli v666 c1_i32_375
  let v668 : BitVec 32 := Scalar.addi c0_i32_376 v667
  v668.toNat
def k0_dev28 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_383 : BitVec 32 := 2#32
  let v681 : BitVec 32 := Scalar.addi v2 c2_i32_383
  let c16_i32_384 : BitVec 32 := 16#32
  let v682 : BitVec 32 := Scalar.remsi v681 c16_i32_384
  let c1_i32_389 : BitVec 32 := 1#32
  let v683 : BitVec 32 := Scalar.muli v682 c1_i32_389
  let v684 : BitVec 32 := Scalar.addi c0_i32_390 v683
  v684.toNat
def k0_dev29 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_397 : BitVec 32 := 15#32
  let v697 : BitVec 32 := Scalar.addi v2 c15_i32_397
  let c16_i32_398 : BitVec 32 := 16#32
  let v698 : BitVec 32 := Scalar.remsi v697 c16_i32_398
  let c1_i32_403 : BitVec 32 := 1#32
  let v699 : BitVec 32 := Scalar.muli v698 c1_i32_403
  let v700 : BitVec 32 := Scalar.addi c0_i32_404 v699
  v700.toNat
def k0_dev30 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_412 : BitVec 32 := 1#32
  let v713 : BitVec 32 := Scalar.addi v2 c1_i32_412
  let c16_i32_413 : BitVec 32 := 16#32
  let v714 : BitVec 32 := Scalar.remsi v713 c16_i32_413
  let c1_i32_418 : BitVec 32 := 1#32
  let v715 : BitVec 32 := Scalar.muli v714 c1_i32_418
  let v716 : BitVec 32 := Scalar.addi c0_i32_419 v715
  v716.toNat
def k0_dev31 (d0 : Dev nD) : Nat :=
  let c0_i32_495 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_455 : BitVec 32 := 15#32
  let v776 : BitVec 32 := Scalar.addi v2 c15_i32_455
  let c16_i32_456 : BitVec 32 := 16#32
  let v777 : BitVec 32 := Scalar.remsi v776 c16_i32_456
  let c1_i32_494 : BitVec 32 := 1#32
  let v827 : BitVec 32 := Scalar.muli v777 c1_i32_494
  let v828 : BitVec 32 := Scalar.addi c0_i32_495 v827
  v828.toNat
def k0_dev32 (d0 : Dev nD) : Nat :=
  let c0_i32_540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_500 : BitVec 32 := 1#32
  let v837 : BitVec 32 := Scalar.addi v2 c1_i32_500
  let c16_i32_501 : BitVec 32 := 16#32
  let v838 : BitVec 32 := Scalar.remsi v837 c16_i32_501
  let c1_i32_539 : BitVec 32 := 1#32
  let v888 : BitVec 32 := Scalar.muli v838 c1_i32_539
  let v889 : BitVec 32 := Scalar.addi c0_i32_540 v888
  v889.toNat
def k0_dev33 (d0 : Dev nD) : Nat :=
  let c0_i32_585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_545 : BitVec 32 := 14#32
  let v898 : BitVec 32 := Scalar.addi v2 c14_i32_545
  let c16_i32_546 : BitVec 32 := 16#32
  let v899 : BitVec 32 := Scalar.remsi v898 c16_i32_546
  let c1_i32_584 : BitVec 32 := 1#32
  let v949 : BitVec 32 := Scalar.muli v899 c1_i32_584
  let v950 : BitVec 32 := Scalar.addi c0_i32_585 v949
  v950.toNat
def k0_dev34 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_590 : BitVec 32 := 2#32
  let v959 : BitVec 32 := Scalar.addi v2 c2_i32_590
  let c16_i32_591 : BitVec 32 := 16#32
  let v960 : BitVec 32 := Scalar.remsi v959 c16_i32_591
  let c1_i32_629 : BitVec 32 := 1#32
  let v1010 : BitVec 32 := Scalar.muli v960 c1_i32_629
  let v1011 : BitVec 32 := Scalar.addi c0_i32_630 v1010
  v1011.toNat
def k0_dev35 (d0 : Dev nD) : Nat :=
  let c0_i32_675 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_635 : BitVec 32 := 13#32
  let v1020 : BitVec 32 := Scalar.addi v2 c13_i32_635
  let c16_i32_636 : BitVec 32 := 16#32
  let v1021 : BitVec 32 := Scalar.remsi v1020 c16_i32_636
  let c1_i32_674 : BitVec 32 := 1#32
  let v1071 : BitVec 32 := Scalar.muli v1021 c1_i32_674
  let v1072 : BitVec 32 := Scalar.addi c0_i32_675 v1071
  v1072.toNat
def k0_dev36 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_680 : BitVec 32 := 3#32
  let v1081 : BitVec 32 := Scalar.addi v2 c3_i32_680
  let c16_i32_681 : BitVec 32 := 16#32
  let v1082 : BitVec 32 := Scalar.remsi v1081 c16_i32_681
  let c1_i32_719 : BitVec 32 := 1#32
  let v1132 : BitVec 32 := Scalar.muli v1082 c1_i32_719
  let v1133 : BitVec 32 := Scalar.addi c0_i32_720 v1132
  v1133.toNat
def k0_dev37 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_725 : BitVec 32 := 12#32
  let v1142 : BitVec 32 := Scalar.addi v2 c12_i32_725
  let c16_i32_726 : BitVec 32 := 16#32
  let v1143 : BitVec 32 := Scalar.remsi v1142 c16_i32_726
  let c1_i32_764 : BitVec 32 := 1#32
  let v1193 : BitVec 32 := Scalar.muli v1143 c1_i32_764
  let v1194 : BitVec 32 := Scalar.addi c0_i32_765 v1193
  v1194.toNat
def k0_dev38 (d0 : Dev nD) : Nat :=
  let c0_i32_810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_770 : BitVec 32 := 4#32
  let v1203 : BitVec 32 := Scalar.addi v2 c4_i32_770
  let c16_i32_771 : BitVec 32 := 16#32
  let v1204 : BitVec 32 := Scalar.remsi v1203 c16_i32_771
  let c1_i32_809 : BitVec 32 := 1#32
  let v1254 : BitVec 32 := Scalar.muli v1204 c1_i32_809
  let v1255 : BitVec 32 := Scalar.addi c0_i32_810 v1254
  v1255.toNat
def k0_dev39 (d0 : Dev nD) : Nat :=
  let c0_i32_855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_815 : BitVec 32 := 11#32
  let v1264 : BitVec 32 := Scalar.addi v2 c11_i32_815
  let c16_i32_816 : BitVec 32 := 16#32
  let v1265 : BitVec 32 := Scalar.remsi v1264 c16_i32_816
  let c1_i32_854 : BitVec 32 := 1#32
  let v1315 : BitVec 32 := Scalar.muli v1265 c1_i32_854
  let v1316 : BitVec 32 := Scalar.addi c0_i32_855 v1315
  v1316.toNat
def k0_dev40 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_860 : BitVec 32 := 5#32
  let v1325 : BitVec 32 := Scalar.addi v2 c5_i32_860
  let c16_i32_861 : BitVec 32 := 16#32
  let v1326 : BitVec 32 := Scalar.remsi v1325 c16_i32_861
  let c1_i32_899 : BitVec 32 := 1#32
  let v1376 : BitVec 32 := Scalar.muli v1326 c1_i32_899
  let v1377 : BitVec 32 := Scalar.addi c0_i32_900 v1376
  v1377.toNat
def k0_dev41 (d0 : Dev nD) : Nat :=
  let c0_i32_945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_905 : BitVec 32 := 10#32
  let v1386 : BitVec 32 := Scalar.addi v2 c10_i32_905
  let c16_i32_906 : BitVec 32 := 16#32
  let v1387 : BitVec 32 := Scalar.remsi v1386 c16_i32_906
  let c1_i32_944 : BitVec 32 := 1#32
  let v1437 : BitVec 32 := Scalar.muli v1387 c1_i32_944
  let v1438 : BitVec 32 := Scalar.addi c0_i32_945 v1437
  v1438.toNat
def k0_dev42 (d0 : Dev nD) : Nat :=
  let c0_i32_990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_950 : BitVec 32 := 6#32
  let v1447 : BitVec 32 := Scalar.addi v2 c6_i32_950
  let c16_i32_951 : BitVec 32 := 16#32
  let v1448 : BitVec 32 := Scalar.remsi v1447 c16_i32_951
  let c1_i32_989 : BitVec 32 := 1#32
  let v1498 : BitVec 32 := Scalar.muli v1448 c1_i32_989
  let v1499 : BitVec 32 := Scalar.addi c0_i32_990 v1498
  v1499.toNat
def k0_dev43 (d0 : Dev nD) : Nat :=
  let c0_i32_1035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_995 : BitVec 32 := 9#32
  let v1508 : BitVec 32 := Scalar.addi v2 c9_i32_995
  let c16_i32_996 : BitVec 32 := 16#32
  let v1509 : BitVec 32 := Scalar.remsi v1508 c16_i32_996
  let c1_i32_1034 : BitVec 32 := 1#32
  let v1559 : BitVec 32 := Scalar.muli v1509 c1_i32_1034
  let v1560 : BitVec 32 := Scalar.addi c0_i32_1035 v1559
  v1560.toNat
def k0_dev44 (d0 : Dev nD) : Nat :=
  let c0_i32_1080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1040 : BitVec 32 := 7#32
  let v1569 : BitVec 32 := Scalar.addi v2 c7_i32_1040
  let c16_i32_1041 : BitVec 32 := 16#32
  let v1570 : BitVec 32 := Scalar.remsi v1569 c16_i32_1041
  let c1_i32_1079 : BitVec 32 := 1#32
  let v1620 : BitVec 32 := Scalar.muli v1570 c1_i32_1079
  let v1621 : BitVec 32 := Scalar.addi c0_i32_1080 v1620
  v1621.toNat
def k0_dev45 (d0 : Dev nD) : Nat :=
  let c0_i32_1125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1085 : BitVec 32 := 8#32
  let v1630 : BitVec 32 := Scalar.addi v2 c8_i32_1085
  let c16_i32_1086 : BitVec 32 := 16#32
  let v1631 : BitVec 32 := Scalar.remsi v1630 c16_i32_1086
  let c1_i32_1124 : BitVec 32 := 1#32
  let v1681 : BitVec 32 := Scalar.muli v1631 c1_i32_1124
  let v1682 : BitVec 32 := Scalar.addi c0_i32_1125 v1681
  v1682.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S256x512 : Shape := ⟨2, ![256, 512]⟩
abbrev S16384x64 : Shape := ⟨2, ![16384, 64]⟩
abbrev S_ : Shape := ⟨0, ![]⟩
abbrev S16384 : Shape := ⟨1, ![16384]⟩
abbrev S16384x512 : Shape := ⟨2, ![16384, 512]⟩
abbrev S16384x1x1 : Shape := ⟨3, ![16384, 1, 1]⟩
abbrev S1 : Shape := ⟨1, ![1]⟩
abbrev S1x1x1 : Shape := ⟨3, ![1, 1, 1]⟩
abbrev S1x1 : Shape := ⟨2, ![1, 1]⟩
abbrev S16384x256x512 : Shape := ⟨3, ![16384, 256, 512]⟩

abbrev nBuf : Space → Nat
  | .hbm => 68
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S16384x1, .i32⟩
  | .hbm, ⟨3, _⟩ => ⟨S64x256x512, .f32⟩
  | .hbm, ⟨4, _⟩ => ⟨S256x512, .f32⟩
  | .hbm, ⟨5, _⟩ => ⟨S16384x64, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S16384x64, .f32⟩
  | .hbm, ⟨16, _⟩ => ⟨S16384x64, .f32⟩
  | .hbm, ⟨17, _⟩ => ⟨S16384x512, .f32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S_, .i32⟩
  | .hbm, ⟨22, _⟩ => ⟨S16384x1, .i32⟩
  | .hbm, ⟨23, _⟩ => ⟨S16384x1, .i32⟩
  | .hbm, ⟨24, _⟩ => ⟨S16384x1, .i32⟩
  | .hbm, ⟨25, _⟩ => ⟨S16384x1x1, .i32⟩
  | .hbm, ⟨26, _⟩ => ⟨S1, .i32⟩
  | .hbm, ⟨27, _⟩ => ⟨S_, .i32⟩
  | .hbm, ⟨28, _⟩ => ⟨S16384x1x1, .i32⟩
  | .hbm, ⟨29, _⟩ => ⟨S16384x1x1, .i1⟩
  | .hbm, ⟨30, _⟩ => ⟨S1x1x1, .i32⟩
  | .hbm, ⟨31, _⟩ => ⟨S16384x1x1, .i32⟩
  | .hbm, ⟨32, _⟩ => ⟨S16384x1x1, .i1⟩
  | .hbm, ⟨33, _⟩ => ⟨S16384x1x1, .i1⟩
  | .hbm, ⟨34, _⟩ => ⟨S_, .i1⟩
  | .hbm, ⟨35, _⟩ => ⟨S16384x1, .i1⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384, .i32⟩
  | .hbm, ⟨41, _⟩ => ⟨S_, .i32⟩
  | .hbm, ⟨42, _⟩ => ⟨S16384, .i32⟩
  | .hbm, ⟨43, _⟩ => ⟨S16384, .i1⟩
  | .hbm, ⟨44, _⟩ => ⟨S_, .i32⟩
  | .hbm, ⟨45, _⟩ => ⟨S16384, .i32⟩
  | .hbm, ⟨46, _⟩ => ⟨S16384, .i32⟩
  | .hbm, ⟨47, _⟩ => ⟨S16384, .i32⟩
  | .hbm, ⟨48, _⟩ => ⟨S16384x1, .i32⟩
  | .hbm, ⟨49, _⟩ => ⟨S1, .i32⟩
  | .hbm, ⟨50, _⟩ => ⟨S_, .i32⟩
  | .hbm, ⟨51, _⟩ => ⟨S16384x1, .i32⟩
  | .hbm, ⟨52, _⟩ => ⟨S16384x1, .i1⟩
  | .hbm, ⟨53, _⟩ => ⟨S1x1, .i32⟩
  | .hbm, ⟨54, _⟩ => ⟨S16384x1, .i32⟩
  | .hbm, ⟨55, _⟩ => ⟨S16384x1, .i1⟩
  | .hbm, ⟨56, _⟩ => ⟨S16384x1, .i1⟩
  | .hbm, ⟨57, _⟩ => ⟨S_, .i1⟩
  | .hbm, ⟨58, _⟩ => ⟨S16384, .i1⟩
  | .hbm, ⟨59, _⟩ => ⟨S16384x256x512, .f32⟩
  | .hbm, ⟨60, _⟩ => ⟨S16384x256x512, .i1⟩
  | .hbm, ⟨61, _⟩ => ⟨S_, .f32⟩
  | .hbm, ⟨62, _⟩ => ⟨S16384x256x512, .f32⟩
  | .hbm, ⟨63, _⟩ => ⟨S16384x256x512, .f32⟩
  | .hbm, ⟨64, _⟩ => ⟨S16384x512, .f32⟩
  | .hbm, ⟨65, _⟩ => ⟨S16384x512, .f32⟩
  | .hbm, ⟨66, _⟩ => ⟨S16384x512, .f32⟩
  | .hbm, ⟨67, _⟩ => ⟨S16384x512, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_cst : Ref sig .tc := ⟨.hbm, 37, rfl⟩
abbrev main_call0_v14 : Ref sig .tc := ⟨.hbm, 38, rfl⟩
abbrev main_v11 : Ref sig .tc := ⟨.hbm, 39, rfl⟩
abbrev main_v12 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩

abbrev nD : Nat := 1
abbrev τ : Topo := Topo.v7x

variable {F : FTy → Type} [FloatOps F]
-- ==== Proof.Program.lean ====
/-
The kernel's body written once per phase: the entry signals, the dispatch of the fifteen packets, the local products,
the serving of the fifteen packets received, the gathering of the fifteen replies, each phase a recursion over the list of
slots it visits. `body_eq` states that the printed body is this program.
-/
module

public import proofs.«01_k».proof.Proof.Gen.KernelIdeal
public import proofs.«01_k».proof.Proof.Gen.KernelIdeal.Skeleton

@[expose] public section

noncomputable section

namespace Cert.Moe

open Cert.KernelIdeal Cert.KernelIdeal.Gen
open Idealize.ShloMosaic Idealize.SL.Sem

variable {F : FTy → Type} [FloatOps F]

/-- A slot: slot `s` serves the device at distance `s + 1`. -/
abbrev Slot : Type := Fin 15

/-- The order in which packets leave: the far devices first; -/
def farFirst : List Slot := [7, 8, 6, 9, 5, 10, 4, 11, 3, 12, 2, 13, 1, 14, 0]
/-- the order in which packets are served and replies awaited: the near devices first. -/
def nearFirst : List Slot := [0, 14, 1, 13, 2, 12, 3, 11, 4, 10, 5, 9, 6, 8, 7]

/-! ## The devices a slot names -/

/-- The device's own number, as the kernel computes it. -/
abbrev me (d : Dev nD) : BitVec 32 := Scalar.remsi (Scalar.divsi (Dev.word d) 1#32) 16#32
/-- The device `k` further, as the kernel computes it. -/
abbrev hop (d : Dev nD) (k : BitVec 32) : ℕ :=
  (Scalar.addi 0#32 (Scalar.muli (Scalar.remsi (Scalar.addi (me d) k) 16#32) 1#32)).toNat

theorem hop_lt_to : ∀ (d : Dev nD) (s : Slot), hop d (BitVec.ofNat 32 (s.val + 1)) < nD := by decide +kernel
theorem hop_lt_from : ∀ (d : Dev nD) (s : Slot), hop d (BitVec.ofNat 32 (15 - s.val)) < nD := by decide +kernel

/-- Whom slot `s` sends to, and whom its packet came from. -/
abbrev toDev (d : Dev nD) (s : Slot) : Dev nD := ⟨hop d (BitVec.ofNat 32 (s.val + 1)), hop_lt_to d s⟩
abbrev fromDev (d : Dev nD) (s : Slot) : Dev nD := ⟨hop d (BitVec.ofNat 32 (15 - s.val)), hop_lt_from d s⟩

/-! ## Buffers, semaphores, slots -/

abbrev xM : Memref sig .tc .vmem S1024x256 .f32 := Memref.whole cc0_stg0_0
abbrev rM : Memref sig .tc .vmem S256x64 .f32 := Memref.whole cc0_stg1_0
abbrev iM : Memref sig .tc .vmem S1024x1 .i32 := Memref.whole cc0_stg2_0
abbrev eM : Memref sig .tc .vmem S4x256x512 .f32 := Memref.whole cc0_stg3_0
abbrev wM : Memref sig .tc .vmem S256x512 .f32 := Memref.whole cc0_stg4_0
abbrev oM : Memref sig .tc .vmem S1024x512 .f32 := Memref.whole cc0_stg5_0
abbrev packM : Memref sig .tc .vmem S15x128x384 .bf16 := Memref.whole cc0_scratch0
abbrev dispM : Memref sig .tc .vmem S15x128x384 .bf16 := Memref.whole cc0_scratch1
abbrev youtM : Memref sig .tc .vmem S15x128x512 .bf16 := Memref.whole cc0_scratch2
abbrev yinM : Memref sig .tc .vmem S15x128x512 .bf16 := Memref.whole cc0_scratch3

abbrev barS : Sem sig := (SemArray.scalar (sig.barrier 0 rfl) : Sems sig S_).sem

theorem inb15 : ∀ (s : Slot) (a : Fin 1), (![s.val] : Fin 1 → Nat) a + S1.size a ≤ S15.size a := by decide
theorem inbD : ∀ (s : Slot) (a : Fin 3), (![s.val, 0, 0] : Fin 3 → Nat) a + S1x128x384.size a ≤ S15x128x384.size a := by decide
theorem inbY : ∀ (s : Slot) (a : Fin 3), (![s.val, 0, 0] : Fin 3 → Nat) a + S1x128x512.size a ≤ S15x128x512.size a := by decide

/-- The rectangle slot `s` of a packet buffer is, and of a reply buffer. -/
abbrev rD (s : Slot) : Rect S15x128x384 := Rect.unit (s := S15x128x384) ![s.val, 0, 0] S1x128x384.size (inbD s)
abbrev rY (s : Slot) : Rect S15x128x512 := Rect.unit (s := S15x128x512) ![s.val, 0, 0] S1x128x512.size (inbY s)

theorem packedD : ∀ s : Slot, (rD s).PackedRows (EltTy.packing .bf16) := by decide
theorem packedY : ∀ s : Slot, (rY s).PackedRows (EltTy.packing .bf16) := by decide
theorem wordsD : ∀ s : Slot, (rD s).WholeWords (EltTy.packing .bf16) := by decide
theorem wordsY : ∀ s : Slot, (rY s).WholeWords (EltTy.packing .bf16) := by decide

/-- The semaphore of slot `s` in an array of fifteen. -/
abbrev sem15 (A : DmaSems sig S15) (s : Slot) : DmaSem sig :=
  ((A.slice (Rect.unit (s := S15) ![s.val] S1.size (inb15 s))).squeeze S_ squeezes_S1_S_).sem
/-- Slot `s` of a packet buffer, and of a reply buffer, as the transfers name it. -/
abbrev slotD (M : Memref sig .tc .vmem S15x128x384 .bf16) (s : Slot) : Memref sig .tc .vmem S128x384 .bf16 :=
  (M.slice (rD s) (fun _ => rfl)).squeeze S128x384 squeezes_S1x128x384_S128x384
abbrev slotY (M : Memref sig .tc .vmem S15x128x512 .bf16) (s : Slot) : Memref sig .tc .vmem S128x512 .bf16 :=
  (M.slice (rY s) (fun _ => rfl)).squeeze S128x512 squeezes_S1x128x512_S128x512

/-! ## The pure values -/

/-- The gate column, the destinations and the counts of a device's tokens, and its own number: what the packets are cut from. -/
abbrev gateCol (x : Vec F S1024x256 .f32) (r : Vec F S256x64 .f32) (e : Vec F S1024x1 .i32) : FVec F S1024x1 .f32 :=
  k0_pay5 (k0_pay2 x r) (k0_pay3 x r) e
abbrev gatedX (x : Vec F S1024x256 .f32) (r : Vec F S256x64 .f32) (e : Vec F S1024x1 .i32) : FVec F S1024x256 .f32 :=
  k0_pay6 (k0_pay1 x) (k0_pay2 x r) (k0_pay3 x r) e
abbrev iota16 : IVec S1024x16 32 := iota .tc S1024x16 32 [1] iota_S1024x16_d1_w32
abbrev iota128 : IVec S1024x128 32 := iota .tc S1024x128 32 [1] iota_S1024x128_d1_w32
/-- How many tokens up to each one go to each destination. -/
abbrev counts (e : Vec F S1024x1 .i32) : FVec F S1024x16 .f32 :=
  k0_pay10 (k0_pay8 e) k0_pay9 (Scalar.ofBits .f32 0x3F800000#32) (Scalar.ofBits .f32 0x00000000#32)

/-- The one-hot matrix of the packet at distance `k`: token `t` stands in the row its count names, if it goes there. -/
def placeAt (v2 k : BitVec 32) (v112 : IVec S1024x1 32) (v125 : FVec F S1024x16 .f32) : FVec F S1024x128 .f32 :=
  have b : BitVec 32 := Scalar.remsi (Scalar.addi v2 k) 16#32
  have one : FVec F S1024x1 .f32 := broadcast S1024x1 (Scalar.ofBits .f32 0x3F800000#32)
  have zero : FVec F S1024x1 .f32 := broadcast S1024x1 (Scalar.ofBits .f32 0x00000000#32)
  have hit : FVec F S1024x1 .f32 := select (cmpi .eq v112 (broadcast S1024x1 b)) one zero
  have here : FVec F S1024x16 .f32 := select (cmpi .eq iota16 (broadcast S1024x16 b)) v125 (broadcast S1024x16 (Scalar.ofBits .f32 0x00000000#32))
  have row : FVec F S1024 .f32 := multiReduction .add [1] S1024 here 0x00000000#32 reduces_S1024x16_S1024 (.inl rfl) rfl
  have pos : IVec S1024x1 32 := subi (fptosi 32 (shapeCast S1024x1 row shapeCasts_S1024_S1024x1)) (broadcast S1024x1 1#32)
  select (cmpi .eq iota128 (broadcastTo S1024x128 pos broadcasts_S1024x1_S1024x128))
    (broadcastTo S1024x128 (shapeCast S1024x1 hit shapeCasts_S1024x1_S1024x1) broadcasts_S1024x1_S1024x128)
    (broadcast S1024x128 (Scalar.ofBits .f32 0x00000000#32))

/-- The fifteen one-hot matrices side by side. -/
def placeAll (v2 : BitVec 32) (v112 : IVec S1024x1 32) (v125 : FVec F S1024x16 .f32) : FVec F S1024x1920 .f32 :=
  concatenate S1024x1920 1 [⟨S1024x128, placeAt v2 1#32 v112 v125⟩, ⟨S1024x128, placeAt v2 2#32 v112 v125⟩, ⟨S1024x128, placeAt v2 3#32 v112 v125⟩,
    ⟨S1024x128, placeAt v2 4#32 v112 v125⟩, ⟨S1024x128, placeAt v2 5#32 v112 v125⟩, ⟨S1024x128, placeAt v2 6#32 v112 v125⟩,
    ⟨S1024x128, placeAt v2 7#32 v112 v125⟩, ⟨S1024x128, placeAt v2 8#32 v112 v125⟩, ⟨S1024x128, placeAt v2 9#32 v112 v125⟩,
    ⟨S1024x128, placeAt v2 10#32 v112 v125⟩, ⟨S1024x128, placeAt v2 11#32 v112 v125⟩, ⟨S1024x128, placeAt v2 12#32 v112 v125⟩,
    ⟨S1024x128, placeAt v2 13#32 v112 v125⟩, ⟨S1024x128, placeAt v2 14#32 v112 v125⟩, ⟨S1024x128, placeAt v2 15#32 v112 v125⟩]
    concatenates_S1024x128_S1024x128_S1024x128_S1024x128_S1024x128_S1024x128_S1024x128_S1024x128_S1024x128_S1024x128_S1024x128_S1024x128_S1024x128_S1024x128_S1024x128_S1024x1920_d1

/-- The one-hot matrices of device `d` with the destinations `e`. -/
def place (d : Dev nD) (e : Vec F S1024x1 .i32) : FVec F S1024x1920 .f32 := placeAll (me d) (k0_pay7 e) (counts e)

/-- All fifteen packets, one above the other: gated rows, one-hot local experts, padding. -/
def packets (d : Dev nD) (x : Vec F S1024x256 .f32) (r : Vec F S256x64 .f32) (e : Vec F S1024x1 .i32) : FVec F S1920x384 .bf16 :=
  k0_pay43 (place d e)
    (matmul dot_S1024x1920_S1024x256_S1920x256_0_0_1_1_n_n none (place d e) (gatedX x r e) (constant S1920x256 .f32 0x00000000#32))
    (iota .tc S1024x4 32 [1] iota_S1024x4_d1_w32) (k0_pay40 (k0_pay4 e)) (k0_pay41 (k0_pay4 e)) k0_pay42

theorem slicesD : ∀ s : Slot, S1920x384.Slices ![128 * s.val, 0] S128x384 := by decide

/-- The packet of slot `s`. -/
def packet (d : Dev nD) (x : Vec F S1024x256 .f32) (r : Vec F S256x64 .f32) (e : Vec F S1024x1 .i32) (s : Slot) : FVec F S1x128x384 .bf16 :=
  shapeCast S1x128x384 (extractStridedSlice S128x384 ![128 * s.val, 0] (packets d x r e) (slicesD s)) shapeCasts_S128x384_S1x128x384

/-- The products of a device's own tokens: the shared expert and its four local ones. -/
def localPart (d : Dev nD) (x : Vec F S1024x256 .f32) (r : Vec F S256x64 .f32) (e : Vec F S1024x1 .i32) (w : Vec F S256x512 .f32)
    (E : Fin 4 → Vec F S1x256x512 .f32) : FVec F S1024x512 .f32 :=
  k0_pay63 (me d) (k0_pay1 x) (k0_pay4 e) (gateCol x r e)
    (k0_pay61 (me d) (k0_pay1 x) (k0_pay4 e) (gateCol x r e) w (E 0)) (k0_pay62 (me d)) (E 1) (E 2) (E 3)

/-- The reply to a packet. -/
def reply (p : Vec F S1x128x384 .bf16) (E : Fin 4 → Vec F S1x256x512 .f32) : FVec F S1x128x512 .bf16 :=
  k0_pay67 (k0_pay64 p) (k0_pay65 p) (k0_pay66 p (E 0) (E 1) (E 2)) (E 3)

/-- The result: the local products and the replies scattered back. -/
def gather (P : FVec F S1024x1920 .f32) (acc : FVec F S1024x512 .f32) (y : Slot → Vec F S1x128x512 .bf16) : FVec F S1024x512 .f32 :=
  k0_pay141 P acc (k0_pay130 (y 0)) (k0_pay131 (y 1)) (k0_pay132 (y 2)) (k0_pay133 (y 3)) (k0_pay134 (y 4)) (k0_pay135 (y 5))
    (k0_pay136 (y 6)) (k0_pay137 (y 7)) (k0_pay138 (y 8)) (k0_pay139 (y 9)) (k0_pay140 (y 10)) (y 11) (y 12) (y 13) (y 14)

/-! ## The phases -/

abbrev Pr (F : FTy → Type) (α : Type) := Prog (TpuEff nD τ sig (Elt F) Λ₀ .tc) α

/-- One unit to the barrier semaphore of each slot's device. -/
def signals (d : Dev nD) : List Slot → Pr F PUnit
  | [] => pure ⟨⟩
  | s :: l => do
    semSignalWord (toDev d s) barS 1#32
    signals d l

/-- Each slot's packet written and sent. -/
def dispatch (d : Dev nD) (P : Slot → FVec F S1x128x384 .bf16) : List Slot → Pr F PUnit
  | [] => pure ⟨⟩
  | s :: l => do
    let _ : Vec F S1x128x384 .bf16 ← Prog.lift (.load packM (rD s).toLoadRect (View.loadsAt_vmem h_S1x128x384))
    Prog.lift (.store packM (rD s) (P s) Finset.univ (View.stores_vmem h_S1x128x384 ((Memref.isWhole_whole cc0_scratch0).storeExact_slice rfl _ (packedD s)) (fun _ => rfl)) (.inl rfl))
    Prog.lift (.enqueueDma (slotD packM s) (.remote (Dev.tc (toDev d s)) (slotD dispM s) (.dma (sem15 cc0_scratch4 s))) (.dma (sem15 cc0_scratch5 s))
      (((Memref.isWhole_whole cc0_scratch0).wordExact_slice rfl _ (wordsD s)).reshape _ _) (((Memref.isWhole_whole cc0_scratch1).wordExact_slice rfl _ (wordsD s)).reshape _ _) ⟨⟨rfl, Or.inl rfl⟩, trivial⟩)
    dispatch d P l

theorem inbE : ∀ (j : Fin 4) (a : Fin 3), (![j.val, 0, 0] : Fin 3 → Nat) a + S1x256x512.size a ≤ S4x256x512.size a := by decide
abbrev rE (j : Fin 4) : Rect S4x256x512 := Rect.unit (s := S4x256x512) ![j.val, 0, 0] S1x256x512.size (inbE j)

/-- Local expert `j`'s weights read. -/
abbrev loadE (j : Fin 4) : Pr F (Vec F S1x256x512 .f32) := Prog.lift (.load eM (rE j).toLoadRect (View.loadsAt_vmem h_S1x256x512))

/-- Each slot's packet awaited, its reply computed, written and sent. -/
def serve (d : Dev nD) : List Slot → Pr F PUnit
  | [] => pure ⟨⟩
  | s :: l => do
    Prog.lift (.waitDma2 (sem15 cc0_scratch5 s) (slotD packM s) (slotD dispM s)
      (((Memref.isWhole_whole cc0_scratch0).wordExact_slice rfl _ (wordsD s)).reshape _ _) (((Memref.isWhole_whole cc0_scratch1).wordExact_slice rfl _ (wordsD s)).reshape _ _))
    let p : Vec F S1x128x384 .bf16 ← Prog.lift (.load dispM (rD s).toLoadRect (View.loadsAt_vmem h_S1x128x384))
    let e0 ← loadE 0
    let e1 ← loadE 1
    let e2 ← loadE 2
    let e3 ← loadE 3
    let _ : Vec F S1x128x512 .bf16 ← Prog.lift (.load youtM (rY s).toLoadRect (View.loadsAt_vmem h_S1x128x512))
    Prog.lift (.store youtM (rY s) (reply p ![e0, e1, e2, e3]) Finset.univ (View.stores_vmem h_S1x128x512 ((Memref.isWhole_whole cc0_scratch2).storeExact_slice rfl _ (packedY s)) (fun _ => rfl)) (.inl rfl))
    Prog.lift (.enqueueDma (slotY youtM s) (.remote (Dev.tc (fromDev d s)) (slotY yinM s) (.dma (sem15 cc0_scratch6 s))) (.dma (sem15 cc0_scratch7 s))
      (((Memref.isWhole_whole cc0_scratch2).wordExact_slice rfl _ (wordsY s)).reshape _ _) (((Memref.isWhole_whole cc0_scratch3).wordExact_slice rfl _ (wordsY s)).reshape _ _) ⟨⟨rfl, Or.inl rfl⟩, trivial⟩)
    serve d l

/-- Each slot's reply awaited. -/
def awaitReplies : List Slot → Pr F PUnit
  | [] => pure ⟨⟩
  | s :: l => do
    Prog.lift (.waitDma2 (sem15 cc0_scratch7 s) (slotY youtM s) (slotY yinM s)
      (((Memref.isWhole_whole cc0_scratch2).wordExact_slice rfl _ (wordsY s)).reshape _ _) (((Memref.isWhole_whole cc0_scratch3).wordExact_slice rfl _ (wordsY s)).reshape _ _))
    awaitReplies l

/-- Each slot's reply read, over `acc` at the slots not listed. -/
def readReplies (acc : Slot → Vec F S1x128x512 .bf16) : List Slot → Pr F (Slot → Vec F S1x128x512 .bf16)
  | [] => pure acc
  | s :: l => do
    let y : Vec F S1x128x512 .bf16 ← Prog.lift (.load yinM (rY s).toLoadRect (View.loadsAt_vmem h_S1x128x512))
    readReplies (Function.update acc s y) l

/-- Each slot's packet known to have left, -/
def awaitPackets : List Slot → Pr F PUnit
  | [] => pure ⟨⟩
  | s :: l => do
    Prog.lift (.waitDma2 (sem15 cc0_scratch4 s) (slotD dispM s) (slotD packM s)
      (((Memref.isWhole_whole cc0_scratch1).wordExact_slice rfl _ (wordsD s)).reshape _ _) (((Memref.isWhole_whole cc0_scratch0).wordExact_slice rfl _ (wordsD s)).reshape _ _))
    awaitPackets l

/-- each slot's own reply known to have left. -/
def awaitSent : List Slot → Pr F PUnit
  | [] => pure ⟨⟩
  | s :: l => do
    Prog.lift (.waitDma2 (sem15 cc0_scratch6 s) (slotY yinM s) (slotY youtM s)
      (((Memref.isWhole_whole cc0_scratch3).wordExact_slice rfl _ (wordsY s)).reshape _ _) (((Memref.isWhole_whole cc0_scratch2).wordExact_slice rfl _ (wordsY s)).reshape _ _))
    awaitSent l

abbrev rX : Rect S1024x256 := Rect.unit (s := S1024x256) ![0, 0] S1024x256.size inb_S1024x256_S1024x256_0_0
abbrev rR : Rect S256x64 := Rect.unit (s := S256x64) ![0, 0] S256x64.size inb_S256x64_S256x64_0_0
abbrev rI : Rect S1024x1 := Rect.unit (s := S1024x1) ![0, 0] S1024x1.size inb_S1024x1_S1024x1_0_0
abbrev rW : Rect S256x512 := Rect.unit (s := S256x512) ![0, 0] S256x512.size inb_S256x512_S256x512_0_0
abbrev rO : Rect S1024x512 := Rect.unit (s := S1024x512) ![0, 0] S1024x512.size inb_S1024x512_S1024x512_0_0

/-- The whole body. -/
def body : Pr F PUnit := do
  let d : Dev nD ← Prog.lift .deviceId
  signals d (List.finRange 15)
  semWaitWord barS 15#32
  let x : Vec F S1024x256 .f32 ← Prog.lift (.load xM rX.toLoadRect (View.loadsAt_vmem h_S1024x256))
  let r : Vec F S256x64 .f32 ← Prog.lift (.load rM rR.toLoadRect (View.loadsAt_vmem h_S256x64))
  let e : Vec F S1024x1 .i32 ← Prog.lift (.load iM rI.toLoadRect (View.loadsAt_vmem h_S1024x1))
  dispatch d (packet d x r e) farFirst
  let w : Vec F S256x512 .f32 ← Prog.lift (.load wM rW.toLoadRect (View.loadsAt_vmem h_S256x512))
  let e0 ← loadE 0
  let e1 ← loadE 1
  let e2 ← loadE 2
  let e3 ← loadE 3
  serve d nearFirst
  awaitReplies nearFirst
  let y ← readReplies (fun _ _ => Scalar.ofBits .bf16 0#16) (List.finRange 15)
  let _ : Vec F S1024x512 .f32 ← Prog.lift (.load oM rO.toLoadRect (View.loadsAt_vmem h_S1024x512))
  Prog.lift (.store oM rO (gather (place d e) (localPart d x r e w ![e0, e1, e2, e3]) y) Finset.univ
    (View.stores_vmem_bits_univ h_S1024x512 rfl) (.inl rfl))
  awaitPackets farFirst
  awaitSent nearFirst

end Cert.Moe
-- ==== Proof.Protocol.lean ====
/-
The protocol the sixteen devices keep, stated over the rounds library: which cell awaits what from whom, what each
unit paid hands over, what each device owes at launch, and the order (`lv`) in which cells are waited for.

Slot `s` of device `c` sends to `toDev c s` and is sent to by `fromDev c s`. A device's barrier cell has fifteen duties of one
unit: duty `s` is paid by `fromDev c s` and hands over the two buffers of that device which `c` writes from afar. The cell
of a transfer has one duty, named by its slot.
-/
module

public import proofs.«01_k».proof.Proof.Program
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Two copies of the rounds library: the pipeline's, and ours with the slots as duty names. -/
abbrev UM : Type := URounds (GSem nD τ sig) Slot
abbrev UU : Type := UR sig nD τ × UM

local notation "𝕄" => MT nD τ sig Unit (Elt F) ℕ UU ℕ

abbrev EP : Emb (UR sig nD τ) (MT nD τ sig Unit (Elt F) ℕ UU ℕ) := embL
abbrev ER : Emb UM (MT nD τ sig Unit (Elt F) ℕ UU ℕ) := embR

variable (m : (ℓ : Loc nD τ sig) → Buf (Elt F) ℓ) (ρ : Dev nD → PrngReg)

/-- The memory at launch. -/
def atLaunch : MemSt nD τ sig (Elt F) := ⟨m, fun _ => 0, ρ⟩

/-! ## Who sends to whom -/

theorem from_to : ∀ (c : Dev nD) (s : Slot), fromDev (toDev c s) s = c := by decide +kernel
theorem to_from : ∀ (c : Dev nD) (s : Slot), toDev (fromDev c s) s = c := by decide +kernel
/-- The slot of the opposite distance. -/
abbrev opp (s : Slot) : Slot := Fin.rev s
theorem from_opp : ∀ (c : Dev nD) (s : Slot), fromDev c (opp s) = toDev c s := by decide +kernel
theorem to_opp : ∀ (c : Dev nD) (s : Slot), toDev c (opp s) = fromDev c s := by decide +kernel

/-- Going `s + 1` devices on, as a permutation. -/
def onward (s : Slot) : Dev nD ≃ Dev nD := ⟨fun c => toDev c s, fun c => fromDev c s, fun c => from_to c s, fun c => to_from c s⟩

/-! ## The cells -/

/-- A device's cells: its barrier's, and for each slot the four of the slot's transfers — 0 and 1 the packet's sending and
    arrival, 2 and 3 the reply's. -/
abbrev Ck : Type := Unit ⊕ (Fin 4 × Slot)

abbrev arrOf : Fin 4 → DmaSems sig S15 := ![cc0_scratch4, cc0_scratch5, cc0_scratch6, cc0_scratch7]
abbrev dsem (p : Fin 4 × Slot) : SemLoc sig := .dma (sem15 (arrOf p.1) p.2)
def csem : Ck → SemLoc sig
  | .inl _ => .reg barS
  | .inr p => dsem p

theorem dsem_inj : Function.Injective dsem := by decide +kernel
theorem csem_inj : Function.Injective csem := by
  rintro (⟨⟩ | p) (⟨⟩ | q) h
  · rfl
  · exact absurd h (fun h => by cases h)
  · exact absurd h (fun h => by cases h)
  · exact congrArg Sum.inr (dsem_inj h)

abbrev kcell (ck : Dev nD × Ck) : GSem nD τ sig := ((ck.1 : Thread nD τ), csem ck.2)
abbrev barCell (c : Dev nD) : GSem nD τ sig := kcell (c, .inl ())
abbrev xCell (i : Fin 4) (c : Dev nD) (s : Slot) : GSem nD τ sig := kcell (c, .inr (i, s))

theorem kcell_inj : Function.Injective (kcell : Dev nD × Ck → GSem nD τ sig) := by
  rintro ⟨c, k⟩ ⟨c', k'⟩ h
  have h1 : c = c' := congrArg (fun g : GSem nD τ sig => g.1.1) h
  exact Prod.ext h1 (csem_inj (congrArg Prod.snd h))

/-- Which of a device's cells a semaphore is, if any. -/
def kindOf (l : SemLoc sig) : Option Ck := Function.partialInv csem l
theorem kindOf_csem (k : Ck) : kindOf (csem k) = some k := Function.partialInv_left csem_inj k

/-! ## The buffers, slot by slot -/

/-- Slot `s` of a packet buffer and of a reply buffer, as the loads and stores name it. -/
abbrev sliceD (M : Memref sig .tc .vmem S15x128x384 .bf16) (s : Slot) : Memref sig .tc .vmem S1x128x384 .bf16 := M.slice (rD s) (fun _ => rfl)
abbrev sliceY (M : Memref sig .tc .vmem S15x128x512 .bf16) (s : Slot) : Memref sig .tc .vmem S1x128x512 .bf16 := M.slice (rY s) (fun _ => rfl)

/-- The bytes of a packet, and of a reply, as the semaphores count them. -/
abbrev nD' : ℕ := (slotD dispM 0).view.dmaCredit
abbrev nY' : ℕ := (slotY yinM 0).view.dmaCredit
theorem nD_pos : 0 < nD' := View.dmaCredit_pos _ (by decide)
theorem nY_pos : 0 < nY' := View.dmaCredit_pos _ (by decide)
/-- The bytes a cell of family `i` awaits. -/
abbrev bytes (i : Fin 4) : ℕ := if i.val < 2 then nD' else nY'
theorem bytes_pos (i : Fin 4) : 0 < bytes i := by unfold bytes; split; exacts [nD_pos, nY_pos]

/-- Core `c` holds slot `s` of a packet buffer, reading `v`; of a reply buffer. -/
def holdsD (M : Memref sig .tc .vmem S15x128x384 .bf16) (c : Dev nD) (s : Slot) (v : Vec F S1x128x384 .bf16) : sProp 𝕄 :=
  owns (c : Thread nD τ) (sliceD M s) fullShare v
def holdsY (M : Memref sig .tc .vmem S15x128x512 .bf16) (c : Dev nD) (s : Slot) (v : Vec F S1x128x512 .bf16) : sProp 𝕄 :=
  owns (c : Thread nD τ) (sliceY M s) fullShare v

instance holdsD_storable (M) (c : Dev nD) (s) (v) : BI.Storable (upEmb : UEmb _ 𝕄) (holdsD (F := F) M c s v) := by unfold holdsD; infer_instance
instance holdsY_storable (M) (c : Dev nD) (s) (v) : BI.Storable (upEmb : UEmb _ 𝕄) (holdsY (F := F) M c s v) := by unfold holdsY; infer_instance

/-! ## The contents -/

/-- What device `c`'s arguments are. -/
def xOf (c : Dev nD) : Vec F S1024x256 .f32 := (win0_0.blk (0 : Fin 1)).view.read (Elt F) (m ((c : Thread nD τ).loc main_arg0))
def rOf (c : Dev nD) : Vec F S256x64 .f32 := (win0_1.blk (0 : Fin 1)).view.read (Elt F) (m ((c : Thread nD τ).loc main_arg1))
def iOf (c : Dev nD) : Vec F S1024x1 .i32 := (win0_2.blk (0 : Fin 1)).view.read (Elt F) (m ((c : Thread nD τ).loc main_arg2))
def eOf (c : Dev nD) : Vec F S4x256x512 .f32 := (win0_3.blk (0 : Fin 1)).view.read (Elt F) (m ((c : Thread nD τ).loc main_arg3))
def wOf (c : Dev nD) : Vec F S256x512 .f32 := (win0_4.blk (0 : Fin 1)).view.read (Elt F) (m ((c : Thread nD τ).loc main_arg4))

/-- The weights of local expert `j` of device `c`. -/
def expertOf (c : Dev nD) (j : Fin 4) : Vec F S1x256x512 .f32 := eM.view.readAt (Elt F) (rE j).toLoadRect (eOf m c)

/-- The packet device `c` sends from slot `s`. -/
def packetOf (c : Dev nD) (s : Slot) : Vec F S1x128x384 .bf16 := packet c (xOf m c) (rOf m c) (iOf m c) s
/-- The reply device `c` sends to the packet it was sent in slot `s`. -/
def replyOf (c : Dev nD) (s : Slot) : Vec F S1x128x512 .bf16 := reply (packetOf m (fromDev c s) s) (expertOf m c)
/-- Device `c`'s result. -/
def resultOf (c : Dev nD) : Vec F S1024x512 .f32 :=
  gather (place c (iOf m c)) (localPart c (xOf m c) (rOf m c) (iOf m c) (wOf m c) (expertOf m c)) fun s => replyOf m (toDev c s) s

/-! ## The schedule -/

/-- What `fromDev c s` hands `c` at the barrier: the slots of it that `c` writes. -/
def barPay (c : Dev nD) (s : Slot) : sProp 𝕄 :=
  iprop((∃ v, holdsD dispM (fromDev c s) (opp s) v) ∗ ∃ v, holdsY yinM (fromDev c s) s v)
/-- What a transfer's cell hands `c`: the source back, or the slot it arrived in. -/
def xPay (i : Fin 4) (c : Dev nD) (s : Slot) : sProp 𝕄 :=
  match i with
  | 0 => iprop(∃ v, holdsD packM c s v)
  | 1 => holdsD dispM c s (packetOf m (fromDev c s) s)
  | 2 => iprop(∃ v, holdsY youtM c s v)
  | 3 => holdsY yinM c s (replyOf m (toDev c s) s)

/-- One round. -/
def moeRd : Rounds.Schedule (GSem nD τ sig) Slot 𝕄 where
  duties g r := if r = 0 ∧ g.1.2 = .tc then
      (match kindOf g.2 with | none => ∅ | some (.inl _) => Finset.univ | some (.inr p) => {p.2})
    else ∅
  unitless _ := False
  amount g _ _ := match kindOf g.2 with | some (.inr p) => bytes p.1 | _ => 1
  payload g _ d := match kindOf g.2 with
    | none => iprop(emp)
    | some (.inl _) => barPay g.1.1 d
    | some (.inr p) => xPay m p.1 g.1.1 p.2
  amount_pos g _ _ _ := by
    split
    · exact bytes_pos _
    · exact Nat.one_pos

instance xPay_storable (i : Fin 4) (c : Dev nD) (s : Slot) : BI.Storable (upEmb : UEmb _ 𝕄) (xPay (F := F) m i c s) := by
  unfold xPay; split <;> infer_instance
instance barPay_storable (c : Dev nD) (s : Slot) : BI.Storable (upEmb : UEmb _ 𝕄) (barPay (F := F) c s) := by
  unfold barPay; infer_instance
instance moeRd_storable (g : GSem nD τ sig) (r : ℕ) (d : Slot) :
    BI.Storable (upEmb : UEmb _ 𝕄) ((moeRd (F := F) m).payload g r d) := by
  dsimp only [moeRd]; split <;> infer_instance

section Sched
variable (c : Dev nD) (i : Fin 4) (s d : Slot)

theorem duties_bar : (moeRd (F := F) m).duties (barCell c) 0 = Finset.univ := by
  dsimp only [moeRd]; rw [if_pos ⟨rfl, rfl⟩, kindOf_csem]
theorem duties_x : (moeRd (F := F) m).duties (xCell i c s) 0 = {s} := by
  dsimp only [moeRd]; rw [if_pos ⟨rfl, rfl⟩, kindOf_csem]
theorem duties_later (g : GSem nD τ sig) : ∀ r, 1 ≤ r → (moeRd (F := F) m).duties g r = ∅ :=
  fun r hr => by dsimp only [moeRd]; rw [if_neg fun h => by omega]
theorem amount_bar : (moeRd (F := F) m).amount (barCell c) 0 d = 1 := by
  dsimp only [moeRd]; rw [kindOf_csem]
theorem amount_x : (moeRd (F := F) m).amount (xCell i c s) 0 d = bytes i := by
  dsimp only [moeRd]; rw [kindOf_csem]
theorem payload_bar : (moeRd (F := F) m).payload (barCell c) 0 d = barPay c d := by
  dsimp only [moeRd]; rw [kindOf_csem]
theorem payload_x : (moeRd (F := F) m).payload (xCell i c s) 0 d = xPay m i c s := by
  dsimp only [moeRd]; rw [kindOf_csem]
theorem expect_bar : (moeRd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_x : (moeRd (F := F) m).expect (xCell i c s) 0 = bytes i := by
  unfold Schedule.expect Schedule.amountOf; rw [duties_x, Finset.sum_singleton, amount_x]
theorem rest_bar : bigSep ((moeRd (F := F) m).duties (barCell c) 0 \ ∅) (fun d => (moeRd (F := F) m).payload (barCell c) 0 d)
    = bigSep Finset.univ fun d => barPay (F := F) c d := by
  rw [Finset.sdiff_empty, duties_bar]; exact bigSep_congr fun d _ => payload_bar m c d
theorem rest_x : bigSep ((moeRd (F := F) m).duties (xCell i c s) 0 \ ∅) (fun d => (moeRd (F := F) m).payload (xCell i c s) 0 d) = xPay m i c s := by
  rw [Finset.sdiff_empty, duties_x, bigSep_singleton, payload_x]

end Sched

/-! ## What a device owes; the levels -/

/-- One tally per slot of a list. -/
def owing (g : Slot → GSem nD τ sig) (n : ℕ) : List Slot → CellTallies nD τ sig Unit
  | [] => 0
  | s :: l => owing g n l + tallyAt (g s) () n

theorem owing_pos {g : Slot → GSem nD τ sig} {n : ℕ} {k : GSem nD τ sig} {u : Unit} :
    ∀ {l : List Slot}, 0 < owing g n l k u → ∃ s, k = g s
  | [], h => absurd h (Nat.lt_irrefl 0)
  | s :: l, h => by
    unfold owing at h
    rw [Pi.add_apply, Finsupp.add_apply] at h
    rcases Nat.eq_zero_or_pos (owing g n l k u) with h0 | h0
    · rw [h0, Nat.zero_add] at h; exact ⟨s, (Pipeline.tallyAt_pos h).1⟩
    · exact owing_pos h0

/-- The barriers `c` signals, the packets and the replies it must deliver. -/
abbrev owesBar (c : Dev nD) : List Slot → CellTallies nD τ sig Unit := owing (fun s => barCell (toDev c s)) 1
abbrev owesD (c : Dev nD) : List Slot → CellTallies nD τ sig Unit := owing (fun s => xCell 1 (toDev c s) s) nD'
abbrev owesY (c : Dev nD) : List Slot → CellTallies nD τ sig Unit := owing (fun s => xCell 3 (fromDev c s) s) nY'

/-- At launch: all of them. -/
def O₀ (c : Dev nD) : CellTallies nD τ sig Unit := owesY c nearFirst + owesD c farFirst + owesBar c (List.finRange 15)

def L (g : GSem nD τ sig) : Finset Unit := if g.1.2 = .tc then {()} else ∅
/-- The barrier before the packets before the replies; what a device awaits of itself before all. -/
def lv (g : GSem nD τ sig) (_ : Unit) : ℕ := match kindOf g.2 with
  | some (.inl _) => 1
  | some (.inr (1, _)) => 2
  | some (.inr (3, _)) => 3
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_k (c : Dev nD) (k : Ck) : lv (kcell (c, k)) () = match k with | .inl _ => 1 | .inr (1, _) => 2 | .inr (3, _) => 3 | _ => 0 := by
  unfold lv; rw [kindOf_csem]; rcases k with _ | ⟨i, s⟩
  · rfl
  · fin_cases i <;> rfl

theorem add_pos_or {A B : CellTallies nD τ sig Unit} {g : GSem nD τ sig} {u : Unit} (h : 0 < (A + B) g u) : 0 < A g u ∨ 0 < B g u := by
  rw [Pi.add_apply, Finsupp.add_apply] at h; omega

/-- A wait at level `b` may be made by a device that owes only cells of the protocol above it. -/
theorem mayWait_below (c : Dev nD) (sm : SemLoc sig) (b : ℕ) (O : CellTallies nD τ sig Unit)
    (hb : lv ((c : Thread nD τ), sm) () ≤ b) (hO : ∀ g u, 0 < O g u → ∃ ck : Dev nD × Ck, g = kcell ck ∧ b < lv (kcell ck) ()) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by obtain ⟨ck, rfl, -⟩ := hO g u hg; rw [L_tc]; exact Finset.mem_singleton_self _)
    (fun p hp => by rw [Finset.mem_singleton.mp hp]; exact hb)
    (fun g u hg => by obtain ⟨ck, rfl, h⟩ := hO g u hg; exact h)

theorem above_owesY (c : Dev nD) (l : List Slot) (b : ℕ) (hb : b < 3) :
    ∀ g u, 0 < owesY c l g u → ∃ ck : Dev nD × Ck, g = kcell ck ∧ b < lv (kcell ck) () := fun g u h => by
  obtain ⟨s, hs⟩ := owing_pos h
  exact ⟨(fromDev c s, .inr (3, s)), hs, by rw [lv_k]; exact hb⟩
theorem above_owesD (c : Dev nD) (l : List Slot) (b : ℕ) (hb : b < 2) :
    ∀ g u, 0 < owesD c l g u → ∃ ck : Dev nD × Ck, g = kcell ck ∧ b < lv (kcell ck) () := fun g u h => by
  obtain ⟨s, hs⟩ := owing_pos h
  exact ⟨(toDev c s, .inr (1, s)), hs, by rw [lv_k]; exact hb⟩
theorem above_owesBar (c : Dev nD) (l : List Slot) :
    ∀ g u, 0 < owesBar c l g u → ∃ ck : Dev nD × Ck, g = kcell ck ∧ 0 < lv (kcell ck) () := fun g u h => by
  obtain ⟨s, hs⟩ := owing_pos h
  exact ⟨(toDev c s, .inl ()), hs, by rw [lv_k]; exact Nat.one_pos⟩

/-- Awaiting its barrier a device still owes packets and replies; -/
theorem mayWait_bar (c : Dev nD) :
    (levAts L lv : sProp 𝕄) ⊢ MayWait (c : Thread nD τ) (csem (.inl ())) () (owesY c nearFirst + owesD c farFirst) :=
  mayWait_below c _ 1 _ (by rw [show lv ((c : Thread nD τ), csem (.inl ())) () = _ from lv_k c (.inl ())]) fun g u h =>
    (add_pos_or h).elim (above_owesY c _ 1 (by decide) g u) (above_owesD c _ 1 (by decide) g u)
/-- awaiting a packet, replies only. -/
theorem mayWait_packet (c : Dev nD) (s : Slot) (l : List Slot) :
    (levAts L lv : sProp 𝕄) ⊢ MayWait (c : Thread nD τ) (csem (.inr (1, s))) () (owesY c l) :=
  mayWait_below c _ 2 _ (by rw [show lv ((c : Thread nD τ), csem (.inr (1, s))) () = _ from lv_k c (.inr (1, s))]; exact Nat.le_refl 2) (above_owesY c l 2 (by decide))

/-- The staging semaphores are none of the protocol's, so a device waits on them whatever it owes. -/
theorem mayWait_stage (c : Dev nD) (q : DmaSem sig) (hq : ∀ p, dsem p ≠ .dma q) (O : CellTallies nD τ sig Unit) (hO : O = O₀ c ∨ O = 0) :
    (levAts L lv : sProp 𝕄) ⊢ MayWait (c : Thread nD τ) (.dma q) () O := by
  rcases hO with rfl | rfl
  · refine mayWait_below c _ 0 _ ?_ fun g u h => ?_
    · have hk : kindOf (.dma q) = none := by
        unfold kindOf Function.partialInv
        rw [dif_neg]
        rintro ⟨⟨⟩ | p, h⟩
        · cases h
        · exact hq p h
      unfold lv; dsimp only; rw [hk]
    · unfold O₀ at h
      rcases add_pos_or h with h | h
      · rcases add_pos_or h with h | h
        · exact above_owesY c _ 0 (by decide) g u h
        · exact above_owesD c _ 0 (by decide) g u h
      · exact above_owesBar c _ g u h
  · rw [MayWait_zero]; iintro -; iempintro

/-! ## The records every device may read -/

/-- Every cell's invariant, under the name `K` gives it, and that every cell has reached round 0. -/
def records (K : Dev nD × Ck → ℕ) : sProp 𝕄 :=
  iprop((bigSep Finset.univ fun ck : Dev nD × Ck => cellInv ER (moeRd m) (K ck) (kcell ck))
    ∗ bigSep Finset.univ fun ck : Dev nD × Ck => reached ER (kcell ck) 0)

instance records_persistent (K : Dev nD × Ck → ℕ) : BI.Persistent (records m K) := by unfold records; infer_instance

omit [FloatOps F] in
theorem all_at (Φ : Dev nD × Ck → sProp 𝕄) (ck : Dev nD × Ck) : bigSep Finset.univ Φ ⊢ Φ ck := bigSep_elim (Finset.mem_univ ck)
theorem rec_inv (K : Dev nD × Ck → ℕ) (ck : Dev nD × Ck) : records m K ⊢ cellInv ER (moeRd m) (K ck) (kcell ck) := by
  unfold records
  iintro ⟨H, -⟩
  iapply (all_at (fun ck : Dev nD × Ck => cellInv ER (moeRd m) (K ck) (kcell ck)) ck)
  iexact H
theorem rec_reached (K : Dev nD × Ck → ℕ) (ck : Dev nD × Ck) : records m K ⊢ reached ER (kcell ck) 0 := by
  unfold records
  iintro ⟨-, H⟩
  iapply (all_at (F := F) (fun ck : Dev nD × Ck => reached ER (kcell ck) 0) ck)
  iexact H

end Cert.Moe

end
-- ==== Proof.Phases.lean ====
/-
The phases of the body, each proved once for a list of slots: what it consumes and what it leaves, slot by slot.
-/
module

public import proofs.«01_k».proof.Proof.Protocol

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Ck → ℕ)

abbrev 𝒱₀ : Variants := Variants.none

/-- The weakest precondition of a program on device `c`. -/
abbrev runs {α : Type} (c : Dev nD) (p : Pr F α) (Q : α → sProp 𝕄) : sProp 𝕄 :=
  wp frame (wpE (defs₀ (F := F)) 𝒱₀ (c : Thread nD τ) none) Set.univ p Q

/-! ## One assertion per slot of a list -/

/-- The separating conjunction over a list. -/
def sepL (Φ : Slot → sProp 𝕄) : List Slot → sProp 𝕄
  | [] => iprop(emp)
  | s :: l => iprop(Φ s ∗ sepL Φ l)

omit [FloatOps F] in
/-- Over a list that holds every slot once it is the one over the type. -/
theorem sepL_eq (Φ : Slot → sProp 𝕄) (l : List Slot) (hn : l.Nodup) (hl : ∀ s, s ∈ l) : bigSep Finset.univ Φ = sepL Φ l := by
  have h : ∀ l : List Slot, l.Nodup → bigSep l.toFinset Φ = sepL Φ l := by
    intro l
    induction l with
    | nil => intro _; rfl
    | cons s l ih =>
      intro hn
      rw [List.toFinset_cons, bigSep_insert (by rw [List.mem_toFinset]; exact (List.nodup_cons.mp hn).1), ih (List.nodup_cons.mp hn).2]
      rfl
  rw [← h l hn]
  congr 1
  ext s
  simp [hl s]

/-- What a device still owes, whatever it has waited for. -/
def stillOwes (c : Dev nD) (O : CellTallies nD τ sig Unit) : sProp 𝕄 := iprop(∃ W, owes (c : Thread nD τ) O W)

/-! ## One signal, one wait, one transfer -/

/-- Awaiting a transfer's cell hands over its payload, and the cell is closed at zero. -/
theorem wp_awaitX (c : Dev nD) (i : Fin 4) (s : Slot) (O : CellTallies nD τ sig Unit) {sp sp' : Space} {S S' : Shape} {e e' : EltTy}
    {src : Memref sig .tc sp S e} {dst : Memref sig .tc sp' S' e'} {hs : src.view.WordExact} {hd : dst.view.WordExact} (hb : dst.view.dmaCredit = bytes i)
    {α : Type} {Q : α → sProp 𝕄} {k : PUnit → Pr F α} :
    iprop(records m K ∗ cred (tallyAt (xCell i c s) () (bytes i)) ∗ stillOwes c O ∗ MayWait (c : Thread nD τ) (csem (.inr (i, s))) () O ∗ atPos ER (xCell i c s) 0 ∅ 0)
      ⊢ iprop(((stillOwes c O ∗ semVal (xCell i c s) 0 ∗ xPay m i c s) -∗ runs c (k ⟨⟩) Q)
          -∗ runs c (.op (.waitDma2 (sem15 (arrOf i) s) src dst hs hd) k) Q) := by
  unfold stillOwes
  iintro ⟨#Hrec, Hc, ⟨%W, HO⟩, Hmw, Hat⟩ Hk
  iapply (Rounds.wp_wait_rest_token 𝒱₀ ER (moeRd m) (c : Thread nD τ) none (κ := K (c, .inr (i, s))) (sm := csem (.inr (i, s)))
      (wpE_waitDma2_eq 𝒱₀ (c : Thread nD τ) none Set.univ) (Set.mem_univ _) () (O := O) (W := W) (R := 0) (m := 0) (T := ∅)
      (by rw [Nat.zero_add, hb]; exact (expect_x m c i s).symm)) $$ [Hc HO Hmw Hat]
  · isplitr; · iapply (rec_inv m K (c, .inr (i, s))); iexact Hrec
    isplitl [Hc]; · rw [hb]; iexact Hc
    isplitl [HO]; · iexact HO
    isplitl [Hmw]; · iexact Hmw
    iexact Hat
  iintro ⟨HO, Hat, -, Hpay⟩
  ihave Hp := (Entails.of_eq (rest_x m c i s)) $$ Hpay
  ihave #Hinv := (rec_inv m K (c, .inr (i, s))) $$ Hrec
  imod (Rounds.cell_close ER (moeRd m) (Set.mem_univ (K (c, .inr (i, s)))) (fun h => h) (R := 0 + 1) (duties_later m (xCell i c s))) $$ [Hat] with Hz
  · isplitr; · iexact Hinv
    iexact Hat
  iapply Hk
  isplitl [HO]; · iexists _; iexact HO
  isplitl [Hz]; · iexact Hz
  iexact Hp

/-- Reading a slot one holds. -/
theorem wp_readSlot (c : Dev nD) {S : Shape} (M : Memref sig .tc .vmem S .bf16) (r : Rect S) (hu : ∀ a, r.stride a = 1) (v : r.shape.Idx → Elt F .bf16)
    {hl : M.view.LoadsAt r.toLoadRect} {α : Type} {Q : α → sProp 𝕄} {k : (r.shape.Idx → Elt F .bf16) → Pr F α} :
    (owns (c : Thread nD τ) (M.slice r hu) fullShare v : sProp 𝕄)
      ⊢ iprop((owns (c : Thread nD τ) (M.slice r hu) fullShare v -∗ runs c (k v) Q) -∗ runs c (.op (.load M r.toLoadRect hl) k) Q) := by
  unfold owns
  iintro ⟨%f, %hf, H⟩ Hk
  iapply (wp_load 𝒱₀ (c : Thread nD τ) none Set.univ (m := M) (r := r.toLoadRect) (S := (M.slice r hu).view.set) (View.set_slice M.view r).ge) $$ H
  iintro H
  rw [show M.view.readAt (Elt F) r.toLoadRect f = v from hf]
  iapply Hk
  iexists f
  isplitr; · (ipureintro; exact hf)
  iexact H

/-- Writing a slot one holds. -/
theorem wp_writeSlot (c : Dev nD) {S : Shape} (M : Memref sig .tc .vmem S .bf16) (r : Rect S) (hu : ∀ a, r.stride a = 1) (w : r.shape.Idx → Elt F .bf16)
    {hx : (M.access r : View sig .tc _ _ _).Stores Finset.univ} {hm : (Finset.univ : Finset r.shape.Idx) = Finset.univ ∨ ∀ a, r.stride a = 1}
    {α : Type} {Q : α → sProp 𝕄} {k : PUnit → Pr F α} :
    (iprop(∃ v, owns (c : Thread nD τ) (M.slice r hu) fullShare v) : sProp 𝕄)
      ⊢ iprop((owns (c : Thread nD τ) (M.slice r hu) fullShare w -∗ runs c (k ⟨⟩) Q) -∗ runs c (.op (.store M r w Finset.univ hx hm) k) Q) := by
  unfold owns
  iintro ⟨%v, %f, %hf, H⟩ Hk
  iapply (wp_store 𝒱₀ (c : Thread nD τ) none Set.univ (m := M) (r := r) (Mk := Finset.univ) (S := (M.slice r hu).view.set) subset_rfl) $$ H
  iintro H
  iapply Hk
  iexists _
  isplitr; swap
  · iexact H
  · ipureintro
    exact View.read_write_univ _ _

omit [FloatOps F] in
/-- What a copy between two views taken in another shape leaves is what the source reads in its own. -/
theorem read_copied {s s' : Shape} (v v' : View sig .tc .vmem s .bf16) (h : s'.numel = s.numel) (f : v.ty.Contents (Elt F)) (f' : v'.ty.Contents (Elt F)) :
    v'.read (Elt F) ((v'.reshape s' h).write (Elt F) f' ((v.reshape s' h).read (Elt F) f) Finset.univ) = v.read (Elt F) f := by
  rw [View.write_reshape_univ, View.read_write_univ]
  funext x
  show v.read (Elt F) f (Shape.reshapeEquiv h ((Shape.reshapeEquiv h).symm x)) = _
  rw [Equiv.apply_symm_apply]

/-- Sending a slot one holds to the slot of a peer one holds too: the source comes back with the cell of the sending,
    the destination, now reading the same, goes to the peer with the cell of the arrival. -/
theorem wp_sendSlot (c n : Dev nD) (i j : Fin 4) (hij : bytes i = bytes j) (s : Slot) {S S' : Shape} (M M' : Memref sig .tc .vmem S .bf16) (r : Rect S) (hu : ∀ a, r.stride a = 1)
    (sq : r.shape.Squeezes S') (v : r.shape.Idx → Elt F .bf16)
    (hb : (((M'.slice r hu).squeeze S' sq).view.dmaCredit) = bytes j)
    (hpay : (owns (c : Thread nD τ) (M.slice r hu) fullShare v : sProp 𝕄) ⊢ xPay m i c s)
    (hpay' : (owns (n : Thread nD τ) (M'.slice r hu) fullShare v : sProp 𝕄) ⊢ xPay m j n s)
    {hs : ((M.slice r hu).squeeze S' sq).view.WordExact} {hd : ((M'.slice r hu).squeeze S' sq).view.WordExact} {hsc}
    {ht : DmaTarget.Typed .vmem (.dma (sem15 (arrOf j) s)) (.remote (Dev.tc n : Thread nD τ) ((M'.slice r hu).squeeze S' sq) (.dma (sem15 (arrOf i) s)) hsc)}
    (O : CellTallies nD τ sig Unit) {α : Type} {Q : α → sProp 𝕄} {k : PUnit → Pr F α} :
    iprop(records m K ∗ owns (c : Thread nD τ) (M.slice r hu) fullShare v ∗ (∃ v', owns (n : Thread nD τ) (M'.slice r hu) fullShare v')
        ∗ stillOwes c (O + tallyAt (xCell j n s) () (bytes j)) ∗ dutyTok ER (xCell i c s) 0 s ∗ dutyTok ER (xCell j n s) 0 s)
      ⊢ iprop(((cred (tallyAt (xCell i c s) () (bytes i)) ∗ stillOwes c O) -∗ runs c (k ⟨⟩) Q)
          -∗ runs c (.op (.enqueueDma ((M.slice r hu).squeeze S' sq) (.remote (Dev.tc n : Thread nD τ) ((M'.slice r hu).squeeze S' sq) (.dma (sem15 (arrOf i) s)) hsc)
              (.dma (sem15 (arrOf j) s)) hs hd ht) k) Q) := by
  unfold stillOwes
  have hset : ∀ M : Memref sig .tc .vmem S .bf16, ((M.slice r hu).squeeze S' sq).view.set = (M.slice r hu).view.set := fun M =>
    View.set_reshape (M.slice r hu).view sq.numel_eq
  iintro ⟨#Hrec, Hsrc, ⟨%v', Hdst⟩, ⟨%W, HO⟩, Hti, Htj⟩ Hk
  unfold owns
  icases Hsrc with ⟨%f, %hf, Hsrc⟩
  icases Hdst with ⟨%f', %hf', Hdst⟩
  iapply (Rounds.wp_send_pointsTo 𝒱₀ ER (moeRd m) (c : Thread nD τ) none (c' := (Dev.tc n : Thread nD τ)) (src := (M.slice r hu).squeeze S' sq) (dst := (M'.slice r hu).squeeze S' sq)
      (sS := csem (.inr (i, s))) (sem := csem (.inr (j, s))) (q := fullShare) (fs := f) (κ₁ := K (c, .inr (i, s))) (κ₂ := K (n, .inr (j, s)))
      (r₁ := 0) (r₂ := 0) (d₁ := s) (d₂ := s) (fd := f')
      (by rw [duties_x]; exact Finset.mem_singleton_self _) (by rw [duties_x]; exact Finset.mem_singleton_self _)
      () () (bytes j) hb ((amount_x m c i s s).trans hij) (amount_x m n j s s) O rfl (W := W)
      (by
        rw [payload_x]; refine BIBase.Entails.trans ?_ hpay; unfold owns
        rw [hset]
        iintro H; iexists f; isplitr; · (ipureintro; exact hf)
        iexact H)
      (by
        rw [payload_x]; refine BIBase.Entails.trans ?_ hpay'; unfold owns
        rw [hset]
        iintro H; iexists _; isplitr; swap; · iexact H
        ipureintro
        exact (read_copied (M.slice r hu).view (M'.slice r hu).view sq.numel_eq f f').trans hf))
    $$ [Hsrc Hdst HO Hti Htj]
  · isplitr; · iapply (rec_inv m K (c, .inr (i, s))); iexact Hrec
    isplitr; · iapply (rec_inv m K (n, .inr (j, s))); iexact Hrec
    isplitl [Hsrc]; · rw [hset]; iexact Hsrc
    isplitl [Hdst]; · rw [hset]; iexact Hdst
    isplitl [HO]; · iexact HO
    isplitl [Hti]; · iexact Hti
    isplitr; · iapply (rec_reached m K (c, .inr (i, s))); iexact Hrec
    isplitl [Htj]; · iexact Htj
    iapply (rec_reached m K (n, .inr (j, s))); iexact Hrec
  iintro ⟨Hc, HO⟩
  iapply Hk
  isplitl [Hc]; · rw [hij]; iexact Hc
  iexists W; iexact HO

/-! ## The phases -/

/-- One unit to each slot's barrier, handing over what it waits for. -/
theorem wp_signals (c : Dev nD) (O : CellTallies nD τ sig Unit) (Q : PUnit → sProp 𝕄) : ∀ l : List Slot,
    iprop(records m K ∗ sepL (fun s => iprop(dutyTok ER (barCell (toDev c s)) 0 s ∗ barPay (toDev c s) s)) l ∗ stillOwes c (O + owesBar c l)
        ∗ (stillOwes c O -∗ Q ⟨⟩)) ⊢ runs c (signals c l) Q
  | [] => by
    unfold signals sepL
    rw [show O + owesBar c [] = O from add_zero O]
    simp only [runs, Prog.pure_eq_ret, wp_ret]
    iintro ⟨-, -, HO, Hk⟩
    imodintro
    iapply Hk; iexact HO
  | s :: l => by
    have ih := wp_signals c O Q l
    unfold signals sepL
    simp only [runs, semSignalWord, Prog.lift, Prog.bind_op, Prog.bind_ret, Prog.pure_eq_ret]
    unfold stillOwes at ih ⊢
    have hp : barPay (F := F) (toDev c s) s ⊢ (moeRd m).payload ((toDev c s : Thread nD τ), .reg barS) 0 s := Entails.of_eq (payload_bar m (toDev c s) s).symm
    iintro ⟨#Hrec, ⟨⟨Ht, Hp⟩, Hl⟩, ⟨%W, HO⟩, Hk⟩
    iapply (Rounds.wp_signal 𝒱₀ ER (moeRd m) (c : Thread nD τ) none (dst := (toDev c s : Thread nD τ)) (κ := K (toDev c s, .inl ()))
        (d := s) ((duties_bar m (toDev c s)).symm ▸ Finset.mem_univ s) ((amount_bar m (toDev c s) s).trans (by decide)) () (O + owesBar c l) (add_assoc _ _ _).symm)
      $$ [HO Ht Hp]
    · isplitr; · iapply (rec_inv m K (toDev c s, .inl ())); iexact Hrec
      isplitl [HO]; · iexact HO
      isplitl [Ht]; · iexact Ht
      isplitl [Hp]; · iapply hp; iexact Hp
      iapply (rec_reached m K (toDev c s, .inl ())); iexact Hrec
    iintro HO
    iapply ih
    isplitr; · iexact Hrec
    isplitl [Hl]; · iexact Hl
    isplitl [HO]; · iexists W; iexact HO
    iexact Hk

/-- What sending the packet of slot `s` takes. -/
def toSendD (c : Dev nD) (s : Slot) : sProp 𝕄 :=
  iprop((∃ v, holdsD packM c s v) ∗ (∃ v, holdsD dispM (toDev c s) s v) ∗ dutyTok ER (xCell 0 c s) 0 s ∗ dutyTok ER (xCell 1 (toDev c s) s) 0 s)

/-- Each slot's packet written and sent. -/
theorem wp_dispatch (c : Dev nD) (O : CellTallies nD τ sig Unit) (Q : PUnit → sProp 𝕄) : ∀ l : List Slot,
    iprop(records m K ∗ sepL (toSendD c) l ∗ stillOwes c (O + owesD c l)
        ∗ ((sepL (fun s => cred (tallyAt (xCell 0 c s) () nD')) l ∗ stillOwes c O) -∗ Q ⟨⟩)) ⊢ runs c (dispatch c (packetOf m c) l) Q
  | [] => by
    unfold dispatch sepL
    rw [show O + owesD c [] = O from add_zero O]
    simp only [runs, Prog.pure_eq_ret, wp_ret]
    iintro ⟨-, -, HO, Hk⟩
    imodintro
    iapply Hk
    isplitr; · iempintro
    iexact HO
  | s :: l => by
    unfold dispatch sepL
    simp only [runs, Prog.lift, Prog.bind_op, Prog.bind_ret, Prog.pure_eq_ret]
    unfold toSendD holdsD
    iintro ⟨#Hrec, ⟨⟨⟨%v, Hs⟩, Hd, Ht, Ht'⟩, Hl⟩, HO, Hk⟩
    iapply (wp_readSlot c packM (rD s) (fun _ => rfl) v) $$ Hs
    iintro Hs
    iapply (wp_writeSlot c packM (rD s) (fun _ => rfl) (packetOf m c s)) $$ [Hs]
    · iexists v; iexact Hs
    iintro Hs
    iapply (wp_sendSlot m K c (toDev c s) 0 1 rfl s packM dispM (rD s) (fun _ => rfl) squeezes_S1x128x384_S128x384 (packetOf m c s) rfl
        (by unfold xPay holdsD; iintro H; iexists _; iexact H) (by unfold xPay holdsD; rw [from_to]) (O + owesD c l)) $$ [Hs Hd HO Ht Ht']
    · isplitr; · iexact Hrec
      isplitl [Hs]; · iexact Hs
      isplitl [Hd]; · iexact Hd
      isplitl [HO]; · rw [add_assoc]; iexact HO
      isplitl [Ht]; · iexact Ht
      iexact Ht'
    iintro ⟨Hc, HO⟩
    iapply (wp_dispatch c O Q l)
    isplitr; · iexact Hrec
    isplitl [Hl]; · iexact Hl
    isplitl [HO]; · iexact HO
    iintro ⟨Hcl, HO⟩
    iapply Hk
    isplitl [Hc Hcl]
    · isplitl [Hc]; · iexact Hc
      iexact Hcl
    iexact HO

/-- Device `c` holds its staged experts. -/
def holdsE (c : Dev nD) : sProp 𝕄 := (eM.view.loc (c : Thread nD τ) ↦{fullShare} (eOf m c))

/-- Reading expert `j` of them. -/
theorem wp_readE (c : Dev nD) (j : Fin 4) {hl : eM.view.LoadsAt (rE j).toLoadRect} {α : Type} {Q : α → sProp 𝕄} {k : Vec F S1x256x512 .f32 → Pr F α} :
    holdsE m c ⊢ iprop((holdsE m c -∗ runs c (k (expertOf m c j)) Q) -∗ runs c (.op (.load eM (rE j).toLoadRect hl) k) Q) := by
  unfold holdsE
  exact wp_load 𝒱₀ (c : Thread nD τ) none Set.univ (m := eM) (r := (rE j).toLoadRect) (Finset.subset_univ _)

/-- What serving slot `s` takes, and what it leaves. -/
def toServe (c : Dev nD) (s : Slot) : sProp 𝕄 :=
  iprop(atPos ER (xCell 1 c s) 0 ∅ 0 ∗ cred (tallyAt (xCell 1 c s) () nD') ∗ (∃ v, holdsY youtM c s v) ∗ (∃ v, holdsY yinM (fromDev c s) s v)
    ∗ dutyTok ER (xCell 2 c s) 0 s ∗ dutyTok ER (xCell 3 (fromDev c s) s) 0 s)
def served (c : Dev nD) (s : Slot) : sProp 𝕄 :=
  iprop(semVal (xCell 1 c s) 0 ∗ holdsD dispM c s (packetOf m (fromDev c s) s) ∗ cred (tallyAt (xCell 2 c s) () nY'))

theorem wp_serve (c : Dev nD) (Q : PUnit → sProp 𝕄) : ∀ l : List Slot,
    iprop(records m K ∗ levAts L lv ∗ holdsE m c ∗ sepL (toServe c) l ∗ stillOwes c (owesY c l)
        ∗ ((holdsE m c ∗ sepL (served m c) l ∗ stillOwes c 0) -∗ Q ⟨⟩)) ⊢ runs c (serve c l) Q
  | [] => by
    unfold serve sepL
    rw [show owesY c [] = 0 from rfl]
    simp only [runs, Prog.pure_eq_ret, wp_ret]
    iintro ⟨-, -, HE, -, HO, Hk⟩
    imodintro
    iapply Hk
    isplitl [HE]; · iexact HE
    isplitr; · iempintro
    iexact HO
  | s :: l => by
    unfold serve sepL
    simp only [runs, loadE, Prog.lift, Prog.bind_op, Prog.bind_ret, Prog.pure_eq_ret]
    unfold toServe holdsY
    iintro ⟨#Hrec, #Hlev, HE, ⟨⟨Hat, Hc, ⟨%v, Hs⟩, Hd, Ht, Ht'⟩, Hl⟩, HO, Hk⟩
    iapply (wp_awaitX m K c 1 s (owesY c (s :: l)) (src := slotD packM s) (dst := slotD dispM s) rfl) $$ [Hat Hc HO]
    · isplitr; · iexact Hrec
      isplitl [Hc]; · iexact Hc
      isplitl [HO]; · iexact HO
      isplitr; · iapply (mayWait_packet c s (s :: l)); iexact Hlev
      iexact Hat
    iintro ⟨HO, Hz, Hp⟩
    unfold xPay holdsD
    iapply (wp_readSlot c dispM (rD s) (fun _ => rfl) (packetOf m (fromDev c s) s)) $$ Hp
    iintro Hp
    iapply (wp_readE m c 0) $$ HE; iintro HE
    iapply (wp_readE m c 1) $$ HE; iintro HE
    iapply (wp_readE m c 2) $$ HE; iintro HE
    iapply (wp_readE m c 3) $$ HE; iintro HE
    iapply (wp_readSlot c youtM (rY s) (fun _ => rfl) v) $$ Hs
    iintro Hs
    rw [show reply (packetOf m (fromDev c s) s) ![expertOf m c 0, expertOf m c 1, expertOf m c 2, expertOf m c 3] = replyOf m c s from rfl]
    iapply (wp_writeSlot c youtM (rY s) (fun _ => rfl) (replyOf m c s)) $$ [Hs]
    · iexists v; iexact Hs
    iintro Hs
    iapply (wp_sendSlot m K c (fromDev c s) 2 3 rfl s youtM yinM (rY s) (fun _ => rfl) squeezes_S1x128x512_S128x512 (replyOf m c s) rfl
        (by unfold xPay holdsY; iintro H; iexists _; iexact H) (by unfold xPay holdsY; rw [to_from]) (owesY c l)) $$ [Hs Hd HO Ht Ht']
    · isplitr; · iexact Hrec
      isplitl [Hs]; · iexact Hs
      isplitl [Hd]; · iexact Hd
      isplitl [HO]; · iexact HO
      isplitl [Ht]; · iexact Ht
      iexact Ht'
    iintro ⟨Hcy, HO⟩
    iapply (wp_serve c Q l)
    isplitr; · iexact Hrec
    isplitr; · iexact Hlev
    isplitl [HE]; · iexact HE
    isplitl [Hl]; · iexact Hl
    isplitl [HO]; · iexact HO
    iintro ⟨HE, Hsl, HO⟩
    iapply Hk
    isplitl [HE]; · iexact HE
    isplitl [Hz Hp Hcy Hsl]
    · isplitl [Hz Hp Hcy]
      · unfold served holdsD
        isplitl [Hz]; · iexact Hz
        isplitl [Hp]; · iexact Hp
        iexact Hcy
      iexact Hsl
    iexact HO

/-- What awaiting the cells of family `i` takes, owing nothing more, and what it leaves. -/
def toAwait (i : Fin 4) (c : Dev nD) (s : Slot) : sProp 𝕄 := iprop(atPos ER (xCell i c s) 0 ∅ 0 ∗ cred (tallyAt (xCell i c s) () (bytes i)))
def awaited (i : Fin 4) (c : Dev nD) (s : Slot) : sProp 𝕄 := iprop(semVal (xCell i c s) 0 ∗ xPay m i c s)

/-- A list of waits on the cells of family `i`, one after the other. -/
theorem wp_awaits (c : Dev nD) (i : Fin 4) (p : List Slot → Pr F PUnit) (hnil : p [] = pure ⟨⟩)
    (hcons : ∀ s l, ∃ (S : Shape) (src dst : Memref sig .tc .vmem S .bf16) (hs : src.view.WordExact) (hd : dst.view.WordExact),
      (p (s :: l) = .op (.waitDma2 (sem15 (arrOf i) s) src dst hs hd) fun _ => p l) ∧ dst.view.dmaCredit = bytes i)
    (Q : PUnit → sProp 𝕄) : ∀ l : List Slot,
    iprop(records m K ∗ sepL (toAwait i c) l ∗ stillOwes c 0 ∗ ((sepL (awaited m i c) l ∗ stillOwes c 0) -∗ Q ⟨⟩)) ⊢ runs c (p l) Q
  | [] => by
    rw [hnil]
    unfold sepL
    simp only [runs, Prog.pure_eq_ret, wp_ret]
    iintro ⟨-, -, HO, Hk⟩
    imodintro
    iapply Hk
    isplitr; · iempintro
    iexact HO
  | s :: l => by
    obtain ⟨S, src, dst, hs, hd, h, hb⟩ := hcons s l
    rw [h]
    unfold sepL toAwait
    iintro ⟨#Hrec, ⟨⟨Hat, Hc⟩, Hl⟩, HO, Hk⟩
    iapply (wp_awaitX m K c i s 0 hb) $$ [Hat Hc HO]
    · isplitr; · iexact Hrec
      isplitl [Hc]; · iexact Hc
      isplitl [HO]; · iexact HO
      isplitr; · rw [MayWait_zero]; iempintro
      iexact Hat
    iintro ⟨HO, Hz, Hp⟩
    iapply (wp_awaits c i p hnil hcons Q l)
    isplitr; · iexact Hrec
    isplitl [Hl]; · unfold toAwait; iexact Hl
    isplitl [HO]; · iexact HO
    iintro ⟨Hal, HO⟩
    iapply Hk
    isplitl [Hz Hp Hal]
    · isplitl [Hz Hp]
      · unfold awaited
        isplitl [Hz]; · iexact Hz
        iexact Hp
      iexact Hal
    iexact HO

theorem wp_awaitReplies (c : Dev nD) (Q : PUnit → sProp 𝕄) (l : List Slot) :
    iprop(records m K ∗ sepL (toAwait 3 c) l ∗ stillOwes c 0 ∗ ((sepL (awaited m 3 c) l ∗ stillOwes c 0) -∗ Q ⟨⟩)) ⊢ runs c (awaitReplies (F := F) l) Q :=
  wp_awaits m K c 3 awaitReplies rfl (fun s l => ⟨_, _, _, _, _, rfl, rfl⟩) Q l
theorem wp_awaitPackets (c : Dev nD) (Q : PUnit → sProp 𝕄) (l : List Slot) :
    iprop(records m K ∗ sepL (toAwait 0 c) l ∗ stillOwes c 0 ∗ ((sepL (awaited m 0 c) l ∗ stillOwes c 0) -∗ Q ⟨⟩)) ⊢ runs c (awaitPackets (F := F) l) Q :=
  wp_awaits m K c 0 awaitPackets rfl (fun s l => ⟨_, _, _, _, _, rfl, rfl⟩) Q l
theorem wp_awaitSent (c : Dev nD) (Q : PUnit → sProp 𝕄) (l : List Slot) :
    iprop(records m K ∗ sepL (toAwait 2 c) l ∗ stillOwes c 0 ∗ ((sepL (awaited m 2 c) l ∗ stillOwes c 0) -∗ Q ⟨⟩)) ⊢ runs c (awaitSent (F := F) l) Q :=
  wp_awaits m K c 2 awaitSent rfl (fun s l => ⟨_, _, _, _, _, rfl, rfl⟩) Q l

/-- Each slot's reply read, over `acc` at the slots not listed. -/
theorem wp_readReplies (c : Dev nD) (v : Slot → Vec F S1x128x512 .bf16) (Q : (Slot → Vec F S1x128x512 .bf16) → sProp 𝕄) :
    ∀ (l : List Slot) (acc : Slot → Vec F S1x128x512 .bf16),
    iprop(sepL (fun s => holdsY yinM c s (v s)) l ∗ (sepL (fun s => holdsY yinM c s (v s)) l -∗ Q (l.foldl (fun a s => Function.update a s (v s)) acc)))
      ⊢ runs c (readReplies acc l) Q
  | [], acc => by
    unfold readReplies sepL
    simp only [runs, Prog.pure_eq_ret, wp_ret, List.foldl_nil]
    iintro ⟨H, Hk⟩
    imodintro
    iapply Hk; iexact H
  | s :: l, acc => by
    unfold readReplies sepL
    simp only [runs, Prog.lift, Prog.bind_op, Prog.bind_ret, Prog.pure_eq_ret, List.foldl_cons]
    unfold holdsY
    iintro ⟨⟨Hs, Hl⟩, Hk⟩
    iapply (wp_readSlot c yinM (rY s) (fun _ => rfl) (v s)) $$ Hs
    iintro Hs
    iapply (wp_readReplies c v Q l (Function.update acc s (v s)))
    isplitl [Hl]; · unfold holdsY; iexact Hl
    iintro Hl
    iapply Hk
    isplitl [Hs]; · iexact Hs
    unfold holdsY; iexact Hl

end Cert.Moe

end
-- ==== Proof.Slots.lean ====
/-
A scratch buffer held whole is held slot by slot, and back.
-/
module

public import proofs.«01_k».proof.Proof.Phases
public import Idealize.ShloMosaic.Lib.Ring

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.ShloMosaic.Ring
open Idealize.SL.BI.BIBase Idealize.SL.BI.Laws Idealize.SL.ProofMode Idealize.SL.Sem

variable {F : FTy → Type} [FloatOps F]

local notation "𝕄" => MT nD τ sig Unit (Elt F) ℕ UU ℕ

/-- The elements of slot `s` are those with `s` in front. -/
theorem mem_rD (s : Slot) (x : S15x128x384.Idx) : x ∈ (rD s).set ↔ (x 0).val = s.val := by
  rw [Rect.mem_set_unit]
  constructor
  · intro h; have h0 : s.val ≤ (x 0).val ∧ (x 0).val < s.val + 1 := h 0; omega
  · intro h a
    have h1 := (x 1).isLt; have h2 := (x 2).isLt
    fin_cases a
    · show s.val ≤ (x 0).val ∧ (x 0).val < s.val + 1; omega
    · exact ⟨Nat.zero_le _, (x 1).isLt⟩
    · exact ⟨Nat.zero_le _, (x 2).isLt⟩
theorem mem_rY (s : Slot) (x : S15x128x512.Idx) : x ∈ (rY s).set ↔ (x 0).val = s.val := by
  rw [Rect.mem_set_unit]
  constructor
  · intro h; have h0 : s.val ≤ (x 0).val ∧ (x 0).val < s.val + 1 := h 0; omega
  · intro h a
    fin_cases a
    · show s.val ≤ (x 0).val ∧ (x 0).val < s.val + 1; omega
    · exact ⟨Nat.zero_le _, (x 1).isLt⟩
    · exact ⟨Nat.zero_le _, (x 2).isLt⟩

/-- A family of rectangles that cut a buffer into the slots. -/
structure Cuts {S : Shape} (r : Slot → Rect S) : Prop where
  apart : ∀ s s', s ≠ s' → Disjoint (r s).set (r s').set
  cover : Finset.univ.biUnion (fun s => (r s).set) = Finset.univ

theorem cutsD : Cuts rD :=
  ⟨fun s s' h => Finset.disjoint_left.mpr fun x hx hx' => h (Fin.ext (((mem_rD s x).mp hx).symm.trans ((mem_rD s' x).mp hx'))),
   Finset.eq_univ_of_forall fun x => Finset.mem_biUnion.mpr ⟨⟨(x 0).val, (x 0).isLt⟩, Finset.mem_univ _, (mem_rD _ x).mpr rfl⟩⟩
theorem cutsY : Cuts rY :=
  ⟨fun s s' h => Finset.disjoint_left.mpr fun x hx hx' => h (Fin.ext (((mem_rY s x).mp hx).symm.trans ((mem_rY s' x).mp hx'))),
   Finset.eq_univ_of_forall fun x => Finset.mem_biUnion.mpr ⟨⟨(x 0).val, (x 0).isLt⟩, Finset.mem_univ _, (mem_rY _ x).mpr rfl⟩⟩

/-- Device `c` holds a buffer whole, at some contents. -/
def wholeSome (c : Dev nD) (b : Ref sig .tc) : sProp 𝕄 :=
  iprop(∃ f : Buf (Elt F) ((c : Thread nD τ).loc b), ((c : Thread nD τ).loc b) ↦{fullShare} f)

omit [FloatOps F] in
/-- The elements of one slot at some contents, as a slice that reads something, and back. -/
theorem slot_in (c : Dev nD) (b : Ref sig .tc) (r : Rect b.ty.shape) (hu : ∀ a, r.stride a = 1) (f : Buf (Elt F) ((c : Thread nD τ).loc b)) :
    ((c : Thread nD τ).loc b ↦[r.set]{fullShare} f : sProp 𝕄) ⊢ iprop(∃ v, owns (c : Thread nD τ) ((Memref.whole b).slice r hu) fullShare v) := by
  unfold owns
  have e : ((Memref.whole b).slice r hu).view.set = r.set := View.set_slice_whole b r
  rw [e]
  iintro H; iexists _; iexists f
  isplitr; · (ipureintro; rfl)
  iexact H
omit [FloatOps F] in
theorem slot_out (c : Dev nD) (b : Ref sig .tc) (r : Rect b.ty.shape) (hu : ∀ a, r.stride a = 1) :
    (iprop(∃ v, owns (c : Thread nD τ) ((Memref.whole b).slice r hu) fullShare v) : sProp 𝕄)
      ⊢ iprop(∃ f : Buf (Elt F) ((c : Thread nD τ).loc b), (c : Thread nD τ).loc b ↦[r.set]{fullShare} f) := by
  unfold owns
  have e : ((Memref.whole b).slice r hu).view.set = r.set := View.set_slice_whole b r
  rw [e]
  iintro ⟨%v, %f, -, H⟩; iexists f
  iexact H

omit [FloatOps F] in
theorem whole_split (c : Dev nD) (b : Ref sig .tc) (r : Slot → Rect b.ty.shape) (hu : ∀ s a, (r s).stride a = 1) (h : Cuts r) :
    wholeSome (F := F) c b ⊢ bigSep Finset.univ fun s => iprop(∃ v, owns (c : Thread nD τ) ((Memref.whole b).slice (r s) (hu s)) fullShare v) := by
  have hm (f : Buf (Elt F) ((c : Thread nD τ).loc b)) : (((c : Thread nD τ).loc b) ↦{fullShare} f : sProp 𝕄)
      ⊢ bigSep Finset.univ fun s => iprop(∃ v, owns (c : Thread nD τ) ((Memref.whole b).slice (r s) (hu s)) fullShare v) := by
    rw [pointsTo_blocks (ℓ := (c : Thread nD τ).loc b) (fun s => (r s).set) h.apart h.cover f]
    exact bigSep_mono fun s _ => slot_in c b (r s) (hu s) f
  unfold wholeSome
  iintro ⟨%f, H⟩
  iapply (hm f)
  iexact H

omit [FloatOps F] in
theorem whole_join (c : Dev nD) (b : Ref sig .tc) (r : Slot → Rect b.ty.shape) (hu : ∀ s a, (r s).stride a = 1) (h : Cuts r)
    (f₀ : Buf (Elt F) ((c : Thread nD τ).loc b)) :
    (bigSep Finset.univ fun s => iprop(∃ v, owns (c : Thread nD τ) ((Memref.whole b).slice (r s) (hu s)) fullShare v)) ⊢ wholeSome (F := F) c b := by
  unfold wholeSome
  exact BIBase.Entails.trans (bigSep_mono fun s _ => slot_out c b (r s) (hu s))
    (pointsTo_blocks_join_exists (ℓ := (c : Thread nD τ).loc b) (fun s => (r s).set) h.apart h.cover f₀)

section
variable (c : Dev nD)
omit [FloatOps F] in
theorem split_pack : wholeSome (F := F) c cc0_scratch0 ⊢ bigSep Finset.univ fun s => iprop(∃ v, holdsD packM c s v) := whole_split c cc0_scratch0 rD _ cutsD
omit [FloatOps F] in
theorem split_disp : wholeSome (F := F) c cc0_scratch1 ⊢ bigSep Finset.univ fun s => iprop(∃ v, holdsD dispM c s v) := whole_split c cc0_scratch1 rD _ cutsD
omit [FloatOps F] in
theorem split_yout : wholeSome (F := F) c cc0_scratch2 ⊢ bigSep Finset.univ fun s => iprop(∃ v, holdsY youtM c s v) := whole_split c cc0_scratch2 rY _ cutsY
omit [FloatOps F] in
theorem split_yin : wholeSome (F := F) c cc0_scratch3 ⊢ bigSep Finset.univ fun s => iprop(∃ v, holdsY yinM c s v) := whole_split c cc0_scratch3 rY _ cutsY

theorem join_pack : (bigSep Finset.univ fun s => iprop(∃ v, holdsD packM c s v)) ⊢ wholeSome (F := F) c cc0_scratch0 :=
  whole_join c cc0_scratch0 rD _ cutsD (fun _ => Scalar.ofBits .bf16 0#16)
theorem join_disp : (bigSep Finset.univ fun s => iprop(∃ v, holdsD dispM c s v)) ⊢ wholeSome (F := F) c cc0_scratch1 :=
  whole_join c cc0_scratch1 rD _ cutsD (fun _ => Scalar.ofBits .bf16 0#16)
theorem join_yout : (bigSep Finset.univ fun s => iprop(∃ v, holdsY youtM c s v)) ⊢ wholeSome (F := F) c cc0_scratch2 :=
  whole_join c cc0_scratch2 rY _ cutsY (fun _ => Scalar.ofBits .bf16 0#16)
theorem join_yin : (bigSep Finset.univ fun s => iprop(∃ v, holdsY yinM c s v)) ⊢ wholeSome (F := F) c cc0_scratch3 :=
  whole_join c cc0_scratch3 rY _ cutsY (fun _ => Scalar.ofBits .bf16 0#16)
end

end Cert.Moe

end
-- ==== Proof.ProgramEq.lean ====
/-
The printed body on its buffers is the program of `Program.lean`.
-/
module

public import proofs.«01_k».proof.Proof.Program

@[expose] public section

noncomputable section

namespace Cert.Moe

open Cert.KernelIdeal Cert.KernelIdeal.Gen
open Idealize.ShloMosaic Idealize.SL.Sem

variable {F : FTy → Type} [FloatOps F]

set_option maxRecDepth 65536 in
set_option maxHeartbeats 4000000 in
/-- The printed body is the phases one after the other. -/
theorem body_eq : cc0_body xM (Memref.isWhole_whole _) rM (Memref.isWhole_whole _) iM (Memref.isWhole_whole _) eM (Memref.isWhole_whole _)
    wM (Memref.isWhole_whole _) oM (Memref.isWhole_whole _) packM (Memref.isWhole_whole _) dispM (Memref.isWhole_whole _)
    youtM (Memref.isWhole_whole _) yinM (Memref.isWhole_whole _) cc0_scratch4 cc0_scratch5 cc0_scratch6 cc0_scratch7 = body (F := F) := rfl

end Cert.Moe
-- ==== Proof.Body.lean ====
/-
The body on one device, from what the launch gives it to what it leaves: the phases one after the other.
-/
module

public import proofs.«01_k».proof.Proof.Slots
public import proofs.«01_k».proof.Proof.ProgramEq

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Ck → ℕ)

/-! ## What a device starts from and what it leaves -/

/-- Device `c`'s positions, all at the first round; -/
def positions (c : Dev nD) : sProp 𝕄 :=
  iprop(atPos ER (barCell c) 0 ∅ 0 ∗ bigSep Finset.univ (fun s => atPos ER (xCell 0 c s) 0 ∅ 0) ∗ bigSep Finset.univ (fun s => atPos ER (xCell 1 c s) 0 ∅ 0)
    ∗ bigSep Finset.univ (fun s => atPos ER (xCell 2 c s) 0 ∅ 0) ∗ bigSep Finset.univ (fun s => atPos ER (xCell 3 c s) 0 ∅ 0))
/-- the duties it is to pay: its peers' barriers and arrivals, its own sendings. -/
def payToks (c : Dev nD) : sProp 𝕄 :=
  iprop(bigSep Finset.univ (fun s => dutyTok ER (barCell (toDev c s)) 0 s)
    ∗ bigSep Finset.univ (fun s => dutyTok ER (xCell 0 c s) 0 s) ∗ bigSep Finset.univ (fun s => dutyTok ER (xCell 1 (toDev c s) s) 0 s)
    ∗ bigSep Finset.univ (fun s => dutyTok ER (xCell 2 c s) 0 s) ∗ bigSep Finset.univ (fun s => dutyTok ER (xCell 3 (fromDev c s) s) 0 s))
/-- What others are to pay it, in credits. -/
def dues (c : Dev nD) : sProp 𝕄 :=
  iprop(cred (tallyAt (barCell c) () 15) ∗ bigSep Finset.univ (fun s => cred (tallyAt (xCell 1 c s) () nD')) ∗ bigSep Finset.univ (fun s => cred (tallyAt (xCell 3 c s) () nY')))

def ghost (c : Dev nD) : sProp 𝕄 := iprop(records m K ∗ positions c ∗ payToks c)
def start (c : Dev nD) : sProp 𝕄 := iprop((∃ K, ghost m K c) ∗ dues c ∗ levAts L lv)

/-- The four scratch buffers. -/
def scratch (c : Dev nD) : sProp 𝕄 :=
  iprop(wholeSome c cc0_scratch0 ∗ wholeSome c cc0_scratch1 ∗ wholeSome c cc0_scratch2 ∗ wholeSome c cc0_scratch3)
/-- The cells of one family, closed. -/
def closed (i : Fin 4) (c : Dev nD) : sProp 𝕄 := bigSep Finset.univ fun s => semVal (xCell i c s) 0

def Φ₀ (c : Dev nD) : sProp 𝕄 := iprop(start m c ∗ scratch c)
def Φ₁ (c : Dev nD) : sProp 𝕄 := iprop(scratch c ∗ semVal (barCell c) 0 ∗ closed 0 c ∗ closed 1 c ∗ closed 2 c ∗ closed 3 c)

/-! ## The orders in which the slots are taken -/

theorem all_far (Φ : Slot → sProp 𝕄) : bigSep Finset.univ Φ = sepL Φ farFirst := sepL_eq Φ _ (by decide) (by decide)
theorem all_near (Φ : Slot → sProp 𝕄) : bigSep Finset.univ Φ = sepL Φ nearFirst := sepL_eq Φ _ (by decide) (by decide)
theorem all_fin (Φ : Slot → sProp 𝕄) : bigSep Finset.univ Φ = sepL Φ (List.finRange 15) := sepL_eq Φ _ (by decide) (by decide)

/-- The slots by opposite distance. -/
theorem by_opp (Φ : Slot → sProp 𝕄) : bigSep Finset.univ Φ = bigSep Finset.univ fun s => Φ (opp s) := bigSep_univ_equiv Fin.revPerm Φ

/-- What `c` hands its peers at their barriers is its two receiving buffers. -/
theorem hand_over (c : Dev nD) :
    iprop(bigSep Finset.univ (fun s => dutyTok ER (barCell (toDev c s)) 0 s) ∗ bigSep Finset.univ (fun s => iprop(∃ v, holdsD dispM c s v))
        ∗ bigSep Finset.univ (fun s => iprop(∃ v, holdsY yinM c s v)))
      ⊢ (sepL (fun s => iprop(dutyTok ER (barCell (toDev c s)) 0 s ∗ barPay (toDev c s) s)) (List.finRange 15) : sProp 𝕄) := by
  rw [← all_fin, by_opp fun s => iprop(∃ v, holdsD dispM c s v), bigSep_sep']
  unfold barPay
  simp only [from_to]
  rw [bigSep_sep']

/-- What `c` is handed at its own is the slots of its peers it is to write. -/
theorem handed (c : Dev nD) :
    (bigSep Finset.univ fun d => barPay (F := F) c d)
      ⊢ iprop(bigSep Finset.univ (fun s => iprop(∃ v, holdsD dispM (toDev c s) s v)) ∗ bigSep Finset.univ (fun s => iprop(∃ v, holdsY yinM (fromDev c s) s v))) := by
  unfold barPay
  rw [bigSep_sep', by_opp fun s => iprop(∃ v, holdsD dispM (fromDev c s) (opp s) v)]
  simp only [from_opp, opp, Fin.rev_rev]
  exact BIBase.Entails.refl

/-! ## The body -/

/-- Device `c` holds a staging buffer reading `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem hz : (![0, 0] : Fin 2 → Nat) = fun _ => 0 := funext fun a => by fin_cases a <;> rfl

/-- Reading the replies slot after slot gives them all. -/
theorem replies_read (v acc : Slot → Vec F S1x128x512 .bf16) : (List.finRange 15).foldl (fun a s => Function.update a s (v s)) acc = v := by
  have h : ∀ (l : List Slot) (acc : Slot → Vec F S1x128x512 .bf16) (s : Slot), (s ∈ l → l.foldl (fun a s => Function.update a s (v s)) acc s = v s)
      ∧ (acc s = v s → l.foldl (fun a s => Function.update a s (v s)) acc s = v s) := by
    intro l
    induction l with
    | nil => intro acc s; exact ⟨fun h => absurd h (List.not_mem_nil), fun h => h⟩
    | cons t l ih =>
      intro acc s
      have hu : s = t ∨ acc s = v s → Function.update acc t (v t) s = v s := by
        rintro h
        by_cases e : s = t
        · subst e; rw [Function.update_self]
        · rw [Function.update_of_ne e]; exact h.resolve_left e
      refine ⟨fun hm => ?_, fun ha => (ih _ s).2 (hu (.inr ha))⟩
      rcases List.mem_cons.mp hm with e | e
      · exact (ih _ s).2 (hu (.inl e))
      · exact (ih _ s).1 e
  exact funext fun s => (h _ acc s).1 (List.mem_finRange s)

/-- The five arguments staged, and the result's staging buffer at some contents. -/
def staged (c : Dev nD) : sProp 𝕄 :=
  iprop((((c : Thread nD τ).loc cc0_stg0_0) ↦{fullShare} (xOf m c)) ∗ (((c : Thread nD τ).loc cc0_stg1_0) ↦{fullShare} (rOf m c))
    ∗ (((c : Thread nD τ).loc cc0_stg2_0) ↦{fullShare} (iOf m c)) ∗ holdsE m c ∗ (((c : Thread nD τ).loc cc0_stg4_0) ↦{fullShare} (wOf m c)))

theorem bar_wait (c : Dev nD) {Q : PUnit → sProp 𝕄} {k : PUnit → Pr F PUnit} :
    iprop(records m K ∗ cred (tallyAt (barCell c) () 15) ∗ stillOwes c (owesY c nearFirst + owesD c farFirst) ∗ levAts L lv ∗ atPos ER (barCell c) 0 ∅ 0)
      ⊢ iprop(((stillOwes c (owesY c nearFirst + owesD c farFirst) ∗ semVal (barCell c) 0 ∗ bigSep Finset.univ fun d => barPay (F := F) c d) -∗ runs c (k ⟨⟩) Q)
          -∗ runs c (.op (.semWait barS 15) k) Q) := by
  unfold stillOwes
  iintro ⟨#Hrec, Hc, ⟨%W, HO⟩, #Hlev, Hat⟩ Hk
  iapply (Rounds.wp_wait_rest_token 𝒱₀ ER (moeRd m) (c : Thread nD τ) none (κ := K (c, .inl ())) (sm := csem (.inl ()))
      (wpE_semWait_eq 𝒱₀ (c : Thread nD τ) none Set.univ) (Set.mem_univ _) () (O := owesY c nearFirst + owesD c farFirst) (W := W) (R := 0) (m := 0) (T := ∅)
      (by rw [Nat.zero_add]; exact (expect_bar m c).symm)) $$ [Hc HO Hat]
  · isplitr; · iapply (rec_inv m K (c, .inl ())); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  ihave #Hinv := (rec_inv m K (c, .inl ())) $$ Hrec
  imod (Rounds.cell_close ER (moeRd m) (Set.mem_univ (K (c, .inl ()))) (fun h => h) (R := 0 + 1) (duties_later m (barCell c))) $$ [Hat] with Hz
  · isplitr; · iexact Hinv
    iexact Hat
  iapply Hk
  isplitl [HO]; · iexists _; iexact HO
  isplitl [Hz]; · iexact Hz
  iexact Hp

end Cert.Moe

end
-- ==== Proof.BodyRun.lean ====
/-
The body on one device, run from its start to its end.
-/
module

public import proofs.«01_k».proof.Proof.Body

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Ck → ℕ)

/-! ## What awaiting a whole family leaves -/

theorem awaited_far (c : Dev nD) : sepL (awaited m 0 c) farFirst ⊢ iprop(closed 0 c ∗ bigSep Finset.univ (fun s => iprop(∃ v, holdsD packM c s v))) := by
  rw [← all_far]; unfold awaited closed; rw [bigSep_sep']; exact BIBase.Entails.refl
theorem awaited_sent (c : Dev nD) : sepL (awaited m 2 c) nearFirst ⊢ iprop(closed 2 c ∗ bigSep Finset.univ (fun s => iprop(∃ v, holdsY youtM c s v))) := by
  rw [← all_near]; unfold awaited closed; rw [bigSep_sep']; exact BIBase.Entails.refl
theorem awaited_replies (c : Dev nD) :
    sepL (awaited m 3 c) nearFirst ⊢ iprop(closed 3 c ∗ sepL (fun s => holdsY yinM c s (replyOf m (toDev c s) s)) (List.finRange 15)) := by
  rw [← all_near, ← all_fin]; unfold awaited closed; rw [bigSep_sep']; exact BIBase.Entails.refl
theorem served_near (c : Dev nD) :
    sepL (served m c) nearFirst ⊢ iprop(closed 1 c ∗ bigSep Finset.univ (fun s => iprop(∃ v, holdsD dispM c s v)) ∗ bigSep Finset.univ (fun s => cred (tallyAt (xCell 2 c s) () nY'))) := by
  have h : (bigSep Finset.univ fun s => holdsD dispM c s (packetOf m (fromDev c s) s)) ⊢ bigSep Finset.univ (fun s => (iprop(∃ v, holdsD dispM c s v) : sProp 𝕄)) :=
    bigSep_mono fun s _ => by
      show holdsD dispM c s (packetOf m (fromDev c s) s) ⊢ iprop(∃ v, holdsD dispM c s v)
      iintro H; iexists _; iexact H
  rw [← all_near]; unfold served closed; rw [bigSep_sep', bigSep_sep']
  iintro ⟨H1, H2, H3⟩
  isplitl [H1]; · iexact H1
  isplitl [H2]; · iapply h; iexact H2
  iexact H3
theorem replies_any (c : Dev nD) (v : Slot → Vec F S1x128x512 .bf16) :
    sepL (fun s => holdsY yinM c s (v s)) (List.finRange 15) ⊢ bigSep Finset.univ (fun s => (iprop(∃ v, holdsY yinM c s v) : sProp 𝕄)) := by
  rw [← all_fin]
  exact bigSep_mono fun s _ => by
    show holdsY yinM c s (v s) ⊢ iprop(∃ v, holdsY yinM c s v)
    iintro H; iexists _; iexact H

/-- What sending all packets takes; -/
theorem to_send (c : Dev nD) :
    iprop(bigSep Finset.univ (fun s => iprop(∃ v, holdsD packM c s v)) ∗ bigSep Finset.univ (fun s => iprop(∃ v, holdsD dispM (toDev c s) s v))
        ∗ bigSep Finset.univ (fun s => dutyTok ER (xCell 0 c s) 0 s) ∗ bigSep Finset.univ (fun s => dutyTok ER (xCell 1 (toDev c s) s) 0 s))
      ⊢ (sepL (toSendD c) farFirst : sProp 𝕄) := by
  rw [← all_far]; unfold toSendD; rw [bigSep_sep', bigSep_sep', bigSep_sep']
/-- what serving all takes; -/
theorem to_serve (c : Dev nD) :
    iprop(bigSep Finset.univ (fun s => atPos ER (xCell 1 c s) 0 ∅ 0) ∗ bigSep Finset.univ (fun s => cred (tallyAt (xCell 1 c s) () nD'))
        ∗ bigSep Finset.univ (fun s => iprop(∃ v, holdsY youtM c s v)) ∗ bigSep Finset.univ (fun s => iprop(∃ v, holdsY yinM (fromDev c s) s v))
        ∗ bigSep Finset.univ (fun s => dutyTok ER (xCell 2 c s) 0 s) ∗ bigSep Finset.univ (fun s => dutyTok ER (xCell 3 (fromDev c s) s) 0 s))
      ⊢ (sepL (toServe c) nearFirst : sProp 𝕄) := by
  rw [← all_near]; unfold toServe; rw [bigSep_sep', bigSep_sep', bigSep_sep', bigSep_sep', bigSep_sep']
/-- what awaiting a family takes. -/
theorem to_await_near (i : Fin 4) (c : Dev nD) :
    iprop(bigSep Finset.univ (fun s => atPos ER (xCell i c s) 0 ∅ 0) ∗ bigSep Finset.univ (fun s => cred (tallyAt (xCell i c s) () (bytes i))))
      ⊢ (sepL (toAwait i c) nearFirst : sProp 𝕄) := by
  rw [← all_near]; unfold toAwait; rw [bigSep_sep']
theorem to_await_far (i : Fin 4) (c : Dev nD) :
    iprop(bigSep Finset.univ (fun s => atPos ER (xCell i c s) 0 ∅ 0) ∗ bigSep Finset.univ (fun s => cred (tallyAt (xCell i c s) () (bytes i))))
      ⊢ (sepL (toAwait i c) farFirst : sProp 𝕄) := by
  rw [← all_far]; unfold toAwait; rw [bigSep_sep']
theorem from_far (c : Dev nD) : sepL (fun s => cred (tallyAt (xCell 0 c s) () nD')) farFirst ⊢ (bigSep Finset.univ (fun s => cred (tallyAt (xCell 0 c s) () nD')) : sProp 𝕄) := by
  rw [all_far]

/-- The four experts read are the experts. -/
theorem experts_read (E : Fin 4 → Vec F S1x256x512 .f32) : ![E 0, E 1, E 2, E 3] = E := funext fun j => by fin_cases j <;> rfl
theorem result_eq (c : Dev nD) :
    gather (place c (iOf m c)) (localPart c (xOf m c) (rOf m c) (iOf m c) (wOf m c) ![expertOf m c 0, expertOf m c 1, expertOf m c 2, expertOf m c 3])
      (fun s => replyOf m (toDev c s) s) = resultOf m c := by
  rw [experts_read]; rfl

/-! ## The run -/

set_option maxHeartbeats 1600000 in
theorem sound_body (c : Dev nD) (Kt : PUnit → sProp 𝕄) :
    iprop(ghost m K c ∗ dues c ∗ levAts L lv ∗ scratch c ∗ stillOwes c (O₀ c) ∗ staged m c
        ∗ (∃ f : Buf (Elt F) ((c : Thread nD τ).loc cc0_stg5_0), ((c : Thread nD τ).loc cc0_stg5_0) ↦{fullShare} f)
        ∗ ((Φ₁ c ∗ stillOwes c 0 ∗ staged m c ∗ (((c : Thread nD τ).loc cc0_stg5_0) ↦{fullShare} (resultOf m c))) -∗ Kt ⟨⟩))
      ⊢ runs c (body (F := F)) Kt := by
  unfold body
  simp only [runs, semWaitWord, loadE, Prog.lift, Prog.bind_op, Prog.bind_ret, Prog.pure_eq_ret, wp_deviceId, wp_bind]
  unfold ghost positions payToks dues scratch staged
  iintro ⟨⟨#Hrec, ⟨HpB, Hp0, Hp1, Hp2, Hp3⟩, ⟨HtB, Ht0, Ht1, Ht2, Ht3⟩⟩, ⟨HcB, Hc1, Hc3⟩, #Hlev, ⟨Hpack, Hdisp, Hyout, Hyin⟩, HO, ⟨Hx, Hr, Hi, HE, Hw⟩, ⟨%fo, Ho⟩, Hk⟩
  ihave Hpack := (split_pack c) $$ Hpack
  ihave Hdisp := (split_disp c) $$ Hdisp
  ihave Hyout := (split_yout c) $$ Hyout
  ihave Hyin := (split_yin c) $$ Hyin
  -- the signals
  iapply (wp_signals m K c (owesY c nearFirst + owesD c farFirst) _ (List.finRange 15))
  isplitr; · iexact Hrec
  isplitl [HtB Hdisp Hyin]
  · iapply (hand_over c)
    isplitl [HtB]; · iexact HtB
    isplitl [Hdisp]; · iexact Hdisp
    iexact Hyin
  isplitl [HO]; · iexact HO
  iintro HO
  -- the barrier
  iapply (bar_wait m K c) $$ [HcB HO HpB]
  · isplitr; · iexact Hrec
    isplitl [HcB]; · iexact HcB
    isplitl [HO]; · iexact HO
    isplitr; · iexact Hlev
    iexact HpB
  iintro ⟨HO, HzB, Hpay⟩
  ihave Hpay := (handed c) $$ Hpay
  icases Hpay with ⟨HdispP, HyinP⟩
  -- the arguments
  iapply (wp_load 𝒱₀ (c : Thread nD τ) none Set.univ (m := xM) (Finset.subset_univ _)) $$ Hx; iintro Hx
  rw [show xM.view.readAt (Elt F) rX.toLoadRect (xOf m c) = xOf m c from Memref.readAt_unit_zero (Elt F) cc0_stg0_0 hz _ _]
  iapply (wp_load 𝒱₀ (c : Thread nD τ) none Set.univ (m := rM) (Finset.subset_univ _)) $$ Hr; iintro Hr
  rw [show rM.view.readAt (Elt F) rR.toLoadRect (rOf m c) = rOf m c from Memref.readAt_unit_zero (Elt F) cc0_stg1_0 hz _ _]
  iapply (wp_load 𝒱₀ (c : Thread nD τ) none Set.univ (m := iM) (Finset.subset_univ _)) $$ Hi; iintro Hi
  rw [show iM.view.readAt (Elt F) rI.toLoadRect (iOf m c) = iOf m c from Memref.readAt_unit_zero (Elt F) cc0_stg2_0 hz _ _]
  -- the packets
  rw [show packet c (xOf m c) (rOf m c) (iOf m c) = packetOf m c from rfl]
  simp only [wp_bind]
  iapply (wp_dispatch m K c (owesY c nearFirst) _ farFirst)
  isplitr; · iexact Hrec
  isplitl [Hpack HdispP Ht0 Ht1]
  · iapply (to_send c)
    isplitl [Hpack]; · iexact Hpack
    isplitl [HdispP]; · iexact HdispP
    isplitl [Ht0]; · iexact Ht0
    iexact Ht1
  isplitl [HO]; · iexact HO
  iintro ⟨Hc0, HO⟩
  iapply (wp_load 𝒱₀ (c : Thread nD τ) none Set.univ (m := wM) (Finset.subset_univ _)) $$ Hw; iintro Hw
  rw [show wM.view.readAt (Elt F) rW.toLoadRect (wOf m c) = wOf m c from Memref.readAt_unit_zero (Elt F) cc0_stg4_0 hz _ _]
  iapply (wp_readE m c 0) $$ HE; iintro HE
  iapply (wp_readE m c 1) $$ HE; iintro HE
  iapply (wp_readE m c 2) $$ HE; iintro HE
  iapply (wp_readE m c 3) $$ HE; iintro HE
  -- the serving
  simp only [wp_bind]
  iapply (wp_serve m K c _ nearFirst)
  isplitr; · iexact Hrec
  isplitr; · iexact Hlev
  isplitl [HE]; · iexact HE
  isplitl [Hp1 Hc1 Hyout HyinP Ht2 Ht3]
  · iapply (to_serve c)
    isplitl [Hp1]; · iexact Hp1
    isplitl [Hc1]; · iexact Hc1
    isplitl [Hyout]; · iexact Hyout
    isplitl [HyinP]; · iexact HyinP
    isplitl [Ht2]; · iexact Ht2
    iexact Ht3
  isplitl [HO]; · iexact HO
  iintro ⟨HE, Hserved, HO⟩
  ihave Hserved := (served_near m c) $$ Hserved
  icases Hserved with ⟨Hz1, Hdisp, Hc2⟩
  -- the replies
  iapply (wp_awaitReplies m K c _ nearFirst)
  isplitr; · iexact Hrec
  isplitl [Hp3 Hc3]
  · iapply (to_await_near 3 c)
    isplitl [Hp3]; · iexact Hp3
    iexact Hc3
  isplitl [HO]; · iexact HO
  iintro ⟨Ha, HO⟩
  ihave Ha := (awaited_replies m c) $$ Ha
  icases Ha with ⟨Hz3, Hyin⟩
  iapply (wp_readReplies c (fun s => replyOf m (toDev c s) s) _ (List.finRange 15) _)
  isplitl [Hyin]; · iexact Hyin
  rw [replies_read]
  iintro Hyin
  ihave Hyin := (replies_any c _) $$ Hyin
  -- the result
  iapply (wp_load 𝒱₀ (c : Thread nD τ) none Set.univ (m := oM) (Finset.subset_univ _)) $$ Ho; iintro Ho
  iapply (wp_store 𝒱₀ (c : Thread nD τ) none Set.univ (m := oM) (r := rO) (Mk := Finset.univ) (Finset.subset_univ _)) $$ Ho; iintro Ho
  rw [show ∀ w, ((oM : Memref sig .tc .vmem S1024x512 .f32).access rO : View sig .tc _ _ _).write (Elt F) fo w Finset.univ = w from
    fun w => Memref.write_access_unit_zero_univ (Elt F) cc0_stg5_0 hz _ fo w, result_eq]
  -- what left has left
  simp only [wp_bind]
  iapply (wp_awaitPackets m K c _ farFirst)
  isplitr; · iexact Hrec
  isplitl [Hp0 Hc0]
  · iapply (to_await_far 0 c)
    isplitl [Hp0]; · iexact Hp0
    iapply (from_far c); iexact Hc0
  isplitl [HO]; · iexact HO
  iintro ⟨Ha, HO⟩
  ihave Ha := (awaited_far m c) $$ Ha
  icases Ha with ⟨Hz0, Hpack⟩
  iapply (wp_awaitSent m K c _ nearFirst)
  isplitr; · iexact Hrec
  isplitl [Hp2 Hc2]
  · iapply (to_await_near 2 c)
    isplitl [Hp2]; · iexact Hp2
    iexact Hc2
  isplitl [HO]; · iexact HO
  iintro ⟨Ha, HO⟩
  ihave Ha := (awaited_sent m c) $$ Ha
  icases Ha with ⟨Hz2, Hyout⟩
  iapply Hk
  unfold Φ₁ scratch
  isplitl [Hpack Hdisp Hyout Hyin HzB Hz0 Hz1 Hz2 Hz3]
  · isplitl [Hpack Hdisp Hyout Hyin]
    · isplitl [Hpack]; · iapply (join_pack c); iexact Hpack
      isplitl [Hdisp]; · iapply (join_disp c); iexact Hdisp
      isplitl [Hyout]; · iapply (join_yout c); iexact Hyout
      iapply (join_yin c); iexact Hyin
    isplitl [HzB]; · iexact HzB
    isplitl [Hz0]; · iexact Hz0
    isplitl [Hz1]; · iexact Hz1
    isplitl [Hz2]; · iexact Hz2
    iexact Hz3
  isplitl [HO]; · iexact HO
  isplitl [Hx Hr Hi HE Hw]
  · isplitl [Hx]; · iexact Hx
    isplitl [Hr]; · iexact Hr
    isplitl [Hi]; · iexact Hi
    isplitl [HE]; · iexact HE
    iexact Hw
  iexact Ho

end Cert.Moe

end
-- ==== Proof.Obligation.lean ====
/-
The pipeline's proof data and the obligation it leaves about the body.
-/
module

public import proofs.«01_k».proof.Proof.BodyRun
public import proofs.«01_k».proof.Proof.Gen.KernelIdeal.Points

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The proof data: the arguments staged, the result's contents, what the body starts from and ends with. -/
def dats (_ : Fin 1) (c : Dev nD) : Dat τ (Elt F) Unit ℕ UU ℕ cfg0 c where
  A w := (atLaunch m ρ).mem ((cfg0.win w).arr.view.loc (c : Thread nD τ))
  after w _ := match w with
    | ⟨0, _⟩ => xOf m c
    | ⟨1, _⟩ => rOf m c
    | ⟨2, _⟩ => iOf m c
    | ⟨3, _⟩ => eOf m c
    | ⟨4, _⟩ => wOf m c
    | ⟨5, _⟩ => resultOf m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- The grid's one point. -/
abbrev pt : Fin cfg0.N := t0_0

theorem stg_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem before_x (c : Dev nD) (d) : (dats m ρ 0 c).before (0 : Fin 6) pt d = xOf m c := by unfold Dat.before; rw [if_pos (by rfl)]; rfl
theorem before_r (c : Dev nD) (d) : (dats m ρ 0 c).before (1 : Fin 6) pt d = rOf m c := by unfold Dat.before; rw [if_pos (by rfl)]; rfl
theorem before_i (c : Dev nD) (d) : (dats m ρ 0 c).before (2 : Fin 6) pt d = iOf m c := by unfold Dat.before; rw [if_pos (by rfl)]; rfl
theorem before_e (c : Dev nD) (d) : (dats m ρ 0 c).before (3 : Fin 6) pt d = eOf m c := by unfold Dat.before; rw [if_pos (by rfl)]; rfl
theorem before_w (c : Dev nD) (d) : (dats m ρ 0 c).before (4 : Fin 6) pt d = wOf m c := by unfold Dat.before; rw [if_pos (by rfl)]; rfl

def bodyPre (c : Dev nD) : sProp 𝕄 :=
  iprop(Φ₀ m c ∗ (dats m ρ 0 c).owesAt () pt.castSucc
    ∗ (∃ d, stg c cc0_stg0_0 ((dats m ρ 0 c).before (0 : Fin 6) pt d))
    ∗ (∃ d, stg c cc0_stg1_0 ((dats m ρ 0 c).before (1 : Fin 6) pt d))
    ∗ (∃ d, stg c cc0_stg2_0 ((dats m ρ 0 c).before (2 : Fin 6) pt d))
    ∗ (∃ d, stg c cc0_stg3_0 ((dats m ρ 0 c).before (3 : Fin 6) pt d))
    ∗ (∃ d, stg c cc0_stg4_0 ((dats m ρ 0 c).before (4 : Fin 6) pt d))
    ∗ (∃ d, stg c cc0_stg5_0 ((dats m ρ 0 c).before (5 : Fin 6) pt d)))
def bodyPost (c : Dev nD) : sProp 𝕄 :=
  iprop(Φ₁ c ∗ (dats m ρ 0 c).owesAt () pt.succ ∗ stg c cc0_stg0_0 (xOf m c) ∗ stg c cc0_stg1_0 (rOf m c) ∗ stg c cc0_stg2_0 (iOf m c)
    ∗ stg c cc0_stg3_0 (eOf m c) ∗ stg c cc0_stg4_0 (wOf m c) ∗ stg c cc0_stg5_0 (resultOf m c))

theorem body_pre_post (c : Dev nD) : bodyPre m ρ c ⊢ runs c (body (F := F)) (fun _ => bodyPost m ρ c) := by
  unfold bodyPre Φ₀ start
  simp only [before_x, before_r, before_i, before_e, before_w]
  unfold Dat.owesAt Pipeline.owesWithin
  rw [show (dats m ρ 0 c).owed pt.castSucc = O₀ c from rfl]
  iintro ⟨⟨⟨⟨%K, Hg⟩, Hd, Hlev⟩, Hs⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  subst h0 h1 h2 h3 h4
  iapply (sound_body m K c)
  isplitl [Hg]; · iexact Hg
  isplitl [Hd]; · iexact Hd
  isplitl [Hlev]; · iexact Hlev
  isplitl [Hs]; · iexact Hs
  isplitl [HO]; · unfold stillOwes; iexists W; iexact HO
  isplitl [H0 H1 H2 H3 H4]
  · unfold staged holdsE
    isplitl [H0]; · iexact H0
    isplitl [H1]; · iexact H1
    isplitl [H2]; · iexact H2
    isplitl [H3]; · iexact H3
    iexact H4
  isplitl [H5]; · iexists f5; iexact H5
  unfold stillOwes staged holdsE bodyPost Dat.owesAt Pipeline.owesWithin
  rw [show (dats m ρ 0 c).owed pt.succ = 0 from rfl]
  iintro ⟨HΦ, ⟨%W', HO⟩, ⟨H0, H1, H2, H3, H4⟩, H5⟩
  isplitl [HΦ]; · iexact HΦ
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 40000 in
/-- The library's obligation about the body, on device `c`. -/
theorem body_obligation (c : Dev nD) : BodyObligation (dats (F := F) m ρ 0 c) (defs₀ (F := F)) 𝒱₀ () Set.univ := fun t => by
  rw [fin_N0 t, bigSep_W0, bigSep_W0]
  simp only [stg_eq]
  show bodyPre m ρ c ⊢ wp frame (wpE (defs₀ (F := F)) 𝒱₀ (c : Thread nD τ) none) Set.univ
    (cc0_body xM (Memref.isWhole_whole _) rM (Memref.isWhole_whole _) iM (Memref.isWhole_whole _) eM (Memref.isWhole_whole _) wM (Memref.isWhole_whole _) oM (Memref.isWhole_whole _)
      packM (Memref.isWhole_whole _) dispM (Memref.isWhole_whole _) youtM (Memref.isWhole_whole _) yinM (Memref.isWhole_whole _)
      cc0_scratch4 cc0_scratch5 cc0_scratch6 cc0_scratch7) (fun _ => bodyPost m ρ c)
  rw [body_eq]
  exact body_pre_post m ρ c

end Cert.Moe

end
-- ==== Proof.Launched.lean ====
/-
The launch: the cells and their tokens dealt to the devices, what each device is owed, and the run of the whole program.
-/
module

public import proofs.«01_k».proof.Proof.Obligation
public import Idealize.ShloMosaic.Lib.Pipeline.CollectiveSegs

@[expose] public section

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec dsem := ⟨by decide +kernel, dsem_inj, by decide +kernel⟩

theorem share_eq (c : Dev nD) (w : Fin cfg0.W) : (dats m ρ 0 c).share w = fullShare := by unfold Dat.share; split <;> rfl

/-! ## Cells and tokens as minted -/

def moeCells : Finset (GSem nD τ sig) := Finset.univ.map ⟨kcell, kcell_inj⟩

/-- A duty's cell and name: of the barrier one per slot, of a transfer's cell the slot's. -/
abbrev tokOf (p : Dev nD × (Slot ⊕ (Fin 4 × Slot))) : GSem nD τ sig × ℕ × Slot := match p.2 with
  | .inl s => (barCell p.1, 0, s)
  | .inr q => (xCell q.1 p.1 q.2, 0, q.2)
theorem tokOf_inj : Function.Injective tokOf := by
  rintro ⟨c, k⟩ ⟨c', k'⟩ h
  have hc : (tokOf (c, k)).1 = (tokOf (c', k')).1 := congrArg Prod.fst h
  have hs : (tokOf (c, k)).2.2 = (tokOf (c', k')).2.2 := congrArg (fun x => x.2.2) h
  rcases k with s | ⟨i, s⟩ <;> rcases k' with s' | ⟨i', s'⟩
  · have h1 := kcell_inj hc
    have h2 : s = s' := hs
    have h3 : c = c' := (Prod.mk.inj h1).1
    rw [h2, h3]
  · have h1 := kcell_inj hc
    exact absurd (Prod.mk.inj h1).2 (fun h => by cases h)
  · have h1 := kcell_inj hc
    exact absurd (Prod.mk.inj h1).2 (fun h => by cases h)
  · have h1 := kcell_inj hc
    have h3 : c = c' := (Prod.mk.inj h1).1
    have h4 : (i, s) = (i', s') := Sum.inr.inj (Prod.mk.inj h1).2
    rw [h3, h4]
def moeToks : Finset (GSem nD τ sig × ℕ × Slot) := Finset.univ.map ⟨tokOf, tokOf_inj⟩

def u₀ : UU := (initOf (Pipeline.cells cfgs cellOf_inj) (Pipeline.launchToks cfgs cellOf_inj), initOf moeCells moeToks)

theorem fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- One assertion per cell of a device, family by family. -/
theorem by_cell (Φ : Ck → sProp 𝕄) : bigSep Finset.univ Φ = iprop(Φ (.inl ()) ∗ bigSep Finset.univ (fun s => Φ (.inr (0, s))) ∗ bigSep Finset.univ (fun s => Φ (.inr (1, s)))
    ∗ bigSep Finset.univ (fun s => Φ (.inr (2, s))) ∗ bigSep Finset.univ (fun s => Φ (.inr (3, s)))) := by
  rw [bigSep_univ_sum, bigSep_univ_prod, fin4, bigSep_univ_of_subsingleton ()]; rfl

/-- The tokens of a device's own cells' duties. -/
def toks (c : Dev nD) : sProp 𝕄 :=
  iprop(bigSep Finset.univ (fun s => dutyTok ER (barCell c) 0 s)
    ∗ bigSep Finset.univ (fun s => dutyTok ER (xCell 0 c s) 0 s) ∗ bigSep Finset.univ (fun s => dutyTok ER (xCell 1 c s) 0 s)
    ∗ bigSep Finset.univ (fun s => dutyTok ER (xCell 2 c s) 0 s) ∗ bigSep Finset.univ (fun s => dutyTok ER (xCell 3 c s) 0 s))

/-- What a device is dealt, and what the devices together make of it. -/
def G (c : Dev nD) : sProp 𝕄 :=
  iprop((bigSep Finset.univ fun k : Ck => roundState ER (moeRd m) (kcell (c, k)) 0)
    ∗ (bigSep Finset.univ fun k : Ck => iprop(atPos ER (kcell (c, k)) 0 ∅ 0 ∗ reached ER (kcell (c, k)) 0)) ∗ toks c)
def G' (c : Dev nD) : sProp 𝕄 := iprop(∃ K, ghost m K c)

theorem fund_moe : BI.own (ER (initOf moeCells moeToks)) ⊢ (|==> bigSep Finset.univ (G m) : sProp 𝕄) := by
  have hX (Φ : GSem nD τ sig → sProp 𝕄) : bigSep moeCells Φ = bigSep Finset.univ fun c : Dev nD => bigSep Finset.univ fun k : Ck => Φ (kcell (c, k)) := by
    unfold moeCells; rw [bigSep_map, bigSep_univ_prod]; rfl
  have hT : bigSep moeToks (fun x => (dutyTok ER x.1 x.2.1 x.2.2 : sProp 𝕄)) = bigSep Finset.univ fun c : Dev nD => toks c := by
    unfold moeToks; rw [bigSep_map, bigSep_univ_prod]
    exact bigSep_congr fun c _ => by unfold toks; rw [bigSep_univ_sum, bigSep_univ_prod, fin4]; rfl
  iintro HX
  imod (Rounds.fund ER (moeRd m) moeCells moeToks) $$ HX with ⟨Hst, Hr, Hat, Htok⟩
  imodintro
  ihave Hst' := (Entails.of_eq (hX fun g => roundState ER (moeRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide) (by decide)]; rfl

abbrev ownS (c : Dev nD) : sProp 𝕄 := Pipeline.ownSems0 (Ix := Unit) (Name := ℕ) (U := UU) (Lvl := ℕ) (Val := Elt F) (τ := τ) dsem c

theorem own_eq (c : Dev nD) : ownS (F := F) c = iprop(closed 0 c ∗ closed 1 c ∗ closed 2 c ∗ closed 3 c) := by
  unfold ownS Pipeline.ownSems0 closed
  rw [bigSep_univ_prod, fin4]; rfl

theorem sems_eq (c : Dev nD) : iprop(ownS c ∗ unscopedSems0 c) ⊢ (bigSep Finset.univ fun k : Ck => semVal (kcell (c, k)) 0 : sProp 𝕄) := by
  rw [own_eq, unscoped_eq, by_cell]
  unfold closed
  iintro ⟨H, HB⟩
  isplitl [HB]; · iexact HB
  iexact H

theorem core_alloc (c : Dev nD) :
    iprop(ownS c ∗ unscopedSems0 c ∗ G m c)
      ⊢ |={Set.univ}=> iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems_eq (F := F) c) $$ [Hos Hus]
  · isplitl [Hos] <;> iassumption
  imod (show iprop((bigSep Finset.univ fun k : Ck => semVal (kcell (c, k)) 0) ∗ bigSep Finset.univ fun k : Ck => roundState ER (moeRd m) (kcell (c, k)) 0)
      ⊢ (|={Set.univ}=> bigSep Finset.univ fun k => iprop(∃ κ : ℕ, cellInv ER (moeRd m) κ (kcell (c, k))) : sProp 𝕄) from by
        rw [← bigSep_sep']
        exact (bigSep_mono fun k _ => (Rounds.body_intro ER (moeRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens to those who pay -/

/-- A token per device and slot goes to the device the slot comes from; -/
theorem round_to (Φ : Dev nD → Slot → sProp 𝕄) :
    (bigSep Finset.univ fun c => bigSep Finset.univ fun s => Φ c s) = bigSep Finset.univ fun c => bigSep Finset.univ fun s => Φ (toDev c s) s := by
  rw [bigSep_univ_comm, bigSep_univ_comm fun c s => Φ (toDev c s) s]
  exact bigSep_congr fun s _ => bigSep_univ_equiv (onward s) fun c => Φ c s
/-- or to the one it goes to. -/
theorem round_from (Φ : Dev nD → Slot → sProp 𝕄) :
    (bigSep Finset.univ fun c => bigSep Finset.univ fun s => Φ c s) = bigSep Finset.univ fun c => bigSep Finset.univ fun s => Φ (fromDev c s) s := by
  rw [bigSep_univ_comm, bigSep_univ_comm fun c s => Φ (fromDev c s) s]
  exact bigSep_congr fun s _ => bigSep_univ_equiv (onward s).symm fun c => Φ c s

theorem toks_around : (bigSep Finset.univ fun c : Dev nD => (toks c : sProp 𝕄)) ⊢ bigSep Finset.univ fun c : Dev nD => payToks c := by
  unfold toks payToks
  simp only [bigSep_sep']
  rw [round_to fun c s => dutyTok ER (barCell c) 0 s, round_to fun c s => dutyTok ER (xCell 1 c s) 0 s, round_from fun c s => dutyTok ER (xCell 3 c s) 0 s]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions_eq (c : Dev nD) : (bigSep Finset.univ fun k : Ck => (atPos ER (kcell (c, k)) 0 ∅ 0 : sProp 𝕄)) = positions c := by
  rw [by_cell]; rfl

theorem regroup :
    (bigSep Finset.univ fun c : Dev nD => iprop((bigSep Finset.univ fun k => iprop(∃ κ : ℕ, cellInv ER (moeRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Ck => iprop(∃ κ : ℕ, cellInv ER (moeRd m) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (moeRd m) κ (kcell ck) : sProp 𝕄))) $$ HI
  icases HK with ⟨%K, #HI⟩
  ihave Htk := (toks_around (F := F)) $$ Htok
  have hd (c : Dev nD) : iprop(records m K ∗ (positions c ∗ payToks c)) ⊢ G' m c := by
    unfold G' ghost
    iintro H; iexists K; iexact H
  iapply (with_records (R := records m K) fun c _ => hd c)
  isplitr
  · unfold records; isplitl; · iexact HI
    iexact HR
  · rw [bigSep_sep']
    simp only [positions_eq]
    isplitl [Hat]; · iexact Hat
    iexact Htk

/-- All devices' semaphores and dealings together become every device's start. -/
theorem glob : (bigSep Finset.univ fun c => iprop(ownS c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The launch credit -/

theorem owing_eq (g : Slot → GSem nD τ sig) (n : ℕ) (k : GSem nD τ sig) : ∀ l : List Slot, owing g n l k () = (l.map fun s => if k = g s then n else 0).sum
  | [] => rfl
  | s :: l => by
    unfold owing
    rw [Pi.add_apply, Finsupp.add_apply, owing_eq g n k l, tallyAt_apply, List.map_cons, List.sum_cons, add_comm]
    simp
theorem owing_sum (g : Slot → GSem nD τ sig) (n : ℕ) (k : GSem nD τ sig) (l : List Slot) (hn : l.Nodup) (hl : ∀ s, s ∈ l) :
    owing g n l k () = ∑ s, if k = g s then n else 0 := by
  rw [owing_eq, ← List.sum_toFinset _ hn]
  congr 1
  ext s; simp [hl s]

theorem O₀_apply (d : Dev nD) (k : GSem nD τ sig) :
    O₀ d k () = (∑ s, if k = xCell 3 (fromDev d s) s then nY' else 0) + (∑ s, if k = xCell 1 (toDev d s) s then nD' else 0) + ∑ s, if k = barCell (toDev d s) then 1 else 0 := by
  unfold O₀
  rw [Pi.add_apply, Finsupp.add_apply, Pi.add_apply, Finsupp.add_apply, owing_sum _ _ _ _ (by decide) (by decide), owing_sum _ _ _ _ (by decide) (by decide),
    owing_sum _ _ _ _ (by decide) (by decide)]

theorem kcell_eq_iff {a b : Dev nD × Ck} : kcell a = kcell b ↔ a = b := kcell_inj.eq_iff

theorem sum_bar (c : Dev nD) : ∑ d, O₀ d (barCell c) () = 15 := by
  simp only [O₀_apply, kcell_eq_iff, Prod.mk.injEq, reduceCtorEq, and_false, if_false, Finset.sum_const_zero, zero_add, and_true]
  revert c; decide +kernel
theorem sum_packet (c : Dev nD) (s : Slot) : ∑ d, O₀ d (xCell 1 c s) () = nD' := by
  have h : ∀ d t, ((c, (Sum.inr (1, s) : Ck)) = (toDev d t, Sum.inr (1, t))) ↔ (d = fromDev c s ∧ t = s) := fun d t => by
    constructor
    · intro h
      have h1 : c = toDev d t := congrArg Prod.fst h
      have h2 : s = t := congrArg (fun p : Fin 4 × Slot => p.2) (Sum.inr.inj (congrArg Prod.snd h))
      subst h2 h1; exact ⟨(from_to d s).symm, rfl⟩
    · rintro ⟨rfl, rfl⟩; rw [to_from]
  have h' : ∀ d t, ((c, (Sum.inr (1, s) : Ck)) = (fromDev d t, Sum.inr (3, t))) ↔ False := fun d t =>
    ⟨fun h => by have := congrArg (fun p : Fin 4 × Slot => p.1) (Sum.inr.inj (congrArg Prod.snd h)); exact absurd this (by show ¬ ((1 : Fin 4) = 3); decide), False.elim⟩
  have h'' : ∀ d t, ((c, (Sum.inr (1, s) : Ck)) = (toDev d t, Sum.inl ())) ↔ False := fun d t => ⟨fun h => (by cases congrArg Prod.snd h), False.elim⟩
  simp only [O₀_apply, kcell_eq_iff, h, h', h'', if_false, Finset.sum_const_zero, zero_add, add_zero]
  rw [Finset.sum_eq_single (fromDev c s) (fun d _ hd => Finset.sum_eq_zero fun t _ => if_neg fun e => hd e.1) (fun h => absurd (Finset.mem_univ _) h),
    Finset.sum_eq_single s (fun t _ ht => if_neg fun e => ht e.2) (fun h => absurd (Finset.mem_univ _) h), if_pos ⟨rfl, rfl⟩]
theorem sum_reply (c : Dev nD) (s : Slot) : ∑ d, O₀ d (xCell 3 c s) () = nY' := by
  have h : ∀ d t, ((c, (Sum.inr (3, s) : Ck)) = (fromDev d t, Sum.inr (3, t))) ↔ (d = toDev c s ∧ t = s) := fun d t => by
    constructor
    · intro h
      have h1 : c = fromDev d t := congrArg Prod.fst h
      have h2 : s = t := congrArg (fun p : Fin 4 × Slot => p.2) (Sum.inr.inj (congrArg Prod.snd h))
      subst h2 h1; exact ⟨(to_from d s).symm, rfl⟩
    · rintro ⟨rfl, rfl⟩; rw [from_to]
  have h' : ∀ d t, ((c, (Sum.inr (3, s) : Ck)) = (toDev d t, Sum.inr (1, t))) ↔ False := fun d t =>
    ⟨fun h => by have := congrArg (fun p : Fin 4 × Slot => p.1) (Sum.inr.inj (congrArg Prod.snd h)); exact absurd this (by show ¬ ((3 : Fin 4) = 1); decide), False.elim⟩
  have h'' : ∀ d t, ((c, (Sum.inr (3, s) : Ck)) = (toDev d t, Sum.inl ())) ↔ False := fun d t => ⟨fun h => (by cases congrArg Prod.snd h), False.elim⟩
  simp only [O₀_apply, kcell_eq_iff, h, h', h'', if_false, Finset.sum_const_zero, zero_add, add_zero]
  rw [Finset.sum_eq_single (toDev c s) (fun d _ hd => Finset.sum_eq_zero fun t _ => if_neg fun e => hd e.1) (fun h => absurd (Finset.mem_univ _) h),
    Finset.sum_eq_single s (fun t _ ht => if_neg fun e => ht e.2) (fun h => absurd (Finset.mem_univ _) h), if_pos ⟨rfl, rfl⟩]

theorem launch_credit (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) : (Pipeline.launchCred O₀ c : sProp 𝕄) ⊢ dues c := by
  unfold Pipeline.launchCred dues
  refine BIBase.Entails.trans (bigSep_subset (t := Finset.univ.map ⟨csem, csem_inj⟩) (Finset.subset_univ _)) ?_
  rw [bigSep_map, by_cell]
  have hb : tallyOn (barCell c) (launchCredit (Pipeline.owing O₀) 0 (barCell c)) = (tallyAt (barCell c) () 15 : CellTallies nD τ sig Unit) := launch_credit _ _ (sum_bar c)
  have h1 (s : Slot) : tallyOn (xCell 1 c s) (launchCredit (Pipeline.owing O₀) 0 (xCell 1 c s)) = (tallyAt (xCell 1 c s) () nD' : CellTallies nD τ sig Unit) := launch_credit _ _ (sum_packet c s)
  have h3 (s : Slot) : tallyOn (xCell 3 c s) (launchCredit (Pipeline.owing O₀) 0 (xCell 3 c s)) = (tallyAt (xCell 3 c s) () nY' : CellTallies nD τ sig Unit) := launch_credit _ _ (sum_reply c s)
  rw [← hb]; simp only [← h1, ← h3]
  iintro ⟨HB, -, H1, -, H3⟩
  isplitl [HB]; · iexact HB
  isplitl [H1]; · iexact H1
  iexact H3

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch wholeSome
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 dsem c ∗ Pipeline.scopedRest cfg0.spec c) := by
  rw [show (dats m ρ 0 c).Φ (Fin.last cfg0.N) = Φ₁ c from rfl, scopedRest0_eq, unscoped_eq, show Pipeline.ownSems0 dsem c = ownS (F := F) c from rfl, own_eq]
  unfold Φ₁ scratch wholeSome
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun p => ownSemFacts.disj p w s) _ (by
      rcases t with ⟨_ | _, ht⟩
      · exact Or.inl rfl
      · exact Or.inr rfl)

/-! ## The run -/

/-- What device `c`'s arrays hold in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- From any memory with zero counters, over any float values: every weakly fair execution of the sixteen devices' programs
    terminates, each device's arrays holding what `finalA` says and every counter zero. -/
theorem run_main : θ_run defs (onTc (τ := τ) (main (F := F))) (atLaunch m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_moe m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
What the arrays hold in the end, and the claims that say no values: both programs' runs end with every argument as it
was and every counter at zero.
-/
module

public import proofs.«01_k».proof.Defs
public import proofs.«01_k».proof.Proof.Launched
public import proofs.«01_k».proof.Proof.Gen.Kernel
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem
open Idealize.ShloMosaic.Pipeline (Dat)

variable {F : FTy → Type} [FloatOps F]

variable (m : (ℓ : Loc nD τ sig) → Buf (Elt F) ℓ) (ρ : Dev nD → PrngReg)

/-- The arguments' arrays end as they were. -/
theorem finalA_x (c : Dev nD) : finalA m ρ c (0 : Fin 6) = (atLaunch m ρ).mem (win0_0.arr.view.loc (c : Thread nD τ)) := (dats (F := F) m ρ 0 c).arrAt_in (0 : Fin 6) rfl _
theorem finalA_r (c : Dev nD) : finalA m ρ c (1 : Fin 6) = (atLaunch m ρ).mem (win0_1.arr.view.loc (c : Thread nD τ)) := (dats (F := F) m ρ 0 c).arrAt_in (1 : Fin 6) rfl _
theorem finalA_i (c : Dev nD) : finalA m ρ c (2 : Fin 6) = (atLaunch m ρ).mem (win0_2.arr.view.loc (c : Thread nD τ)) := (dats (F := F) m ρ 0 c).arrAt_in (2 : Fin 6) rfl _
theorem finalA_e (c : Dev nD) : finalA m ρ c (3 : Fin 6) = (atLaunch m ρ).mem (win0_3.arr.view.loc (c : Thread nD τ)) := (dats (F := F) m ρ 0 c).arrAt_in (3 : Fin 6) rfl _
theorem finalA_w (c : Dev nD) : finalA m ρ c (4 : Fin 6) = (atLaunch m ρ).mem (win0_4.arr.view.loc (c : Thread nD τ)) := (dats (F := F) m ρ 0 c).arrAt_in (4 : Fin 6) rfl _

/-- The result's array, read whole, is what the body computed. -/
theorem finalA_o (c : Dev nD) : (win0_5.blk (0 : Fin 1)).view.read (Elt F) (finalA m ρ c (5 : Fin 6)) = resultOf m c := by
  unfold finalA
  rw [show cfg0.N = ((0 : Fin 1) : Fin cfg0.N).val + 1 from rfl, (dats m ρ 0 c).arrAt_succ (5 : Fin 6) (0 : Fin 1),
    show (cfg0.win (5 : Fin 6)).flush (0 : Fin 1) = true from by decide, if_pos rfl]
  exact View.read_write_univ _ _

/-- The kernel's run: the result, the arguments, the counters. -/
theorem run_values : θ_run defs (onTc (τ := τ) (main (F := F))) ⟨m, fun _ => 0, ρ⟩ (fun r => (∀ c : Dev nD,
      (win0_5.blk (0 : Fin 1)).view.read (Elt F) (r.2.mem ((c.tc : Thread nD τ).loc main_v1)) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(congrArg _ (h.1 c (5 : Fin 6))).trans (finalA_o m ρ c), (h.1 c (0 : Fin 6)).trans (finalA_x m ρ c),
    (h.1 c (1 : Fin 6)).trans (finalA_r m ρ c), (h.1 c (2 : Fin 6)).trans (finalA_i m ρ c), (h.1 c (3 : Fin 6)).trans (finalA_e m ρ c), (h.1 c (4 : Fin 6)).trans (finalA_w m ρ c)⟩, h.2⟩)
    (run_main m ρ)

/-- Over any float values: the arguments unchanged, the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => (h.1 c).2, h.2⟩) (run_values m ρ)

theorem frame_ideal : Cert.quiescent_KernelIdeal := fun m ρ _ => run_frame (F := Ideal) m ρ

/-! The two printed programs have one text; their tables of bodies are equal label by label. -/

set_option maxRecDepth 40000 in
theorem same_body : Cert.Kernel.cc0_body (F := Bits) = Cert.KernelIdeal.cc0_body (F := Bits) := rfl

theorem same_defs₀ : Cert.Kernel.defs₀ (F := Bits) = Cert.KernelIdeal.defs₀ (F := Bits) := by
  unfold Cert.Kernel.defs₀ Cert.KernelIdeal.defs₀
  refine congrArg Defs.onTc ?_
  funext l x
  fin_cases l
  rfl

theorem same_defs : Cert.Kernel.defs (F := Bits) = Cert.KernelIdeal.defs (F := Bits) := congrArg (Pipeline.defs Cert.KernelIdeal.pcfgs) same_defs₀

theorem frame_kernel : Cert.quiescent_Kernel := fun m ρ _ => by
  rw [same_defs]
  exact run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Words.lean ====
/-
The words of the routing arithmetic, for an expert name below 64: the device that holds the expert, the expert's number
there, and the kernel's own tests of either, each as the plain natural number it stands for.
-/
module

public import proofs.«01_k».proof.Proof.Program
public import Idealize.ShloMosaic.Lib.Pointwise
public import Idealize.ShloMosaic.Lib.WordCmp

@[expose] public section

noncomputable section

namespace Cert.Moe

open Cert.KernelIdeal Cert.KernelIdeal.Gen
open Idealize.ShloMosaic Idealize.SL.Sem

/-- A comparison for equality of two words, as a choice. -/
theorem select_cmpi_eq {α : Type} {w : ℕ} (x y : BitVec w) (a b : α) :
    Scalar.select (IntOp.cmpi .eq x y) a b = if x = y then a else b := by
  rw [show IntOp.cmpi .eq x y = BitVec.ofBool (decide (x = y)) from WordCmp.cmpi_eq_eq x y]
  by_cases h : x = y <;> simp [h, Scalar.select]

/-- Two small naturals are the same word only if they are equal. -/
theorem ofNat_inj32 {a b : ℕ} (ha : a < 4294967296) (hb : b < 4294967296) : BitVec.ofNat 32 a = BitVec.ofNat 32 b ↔ a = b :=
  WordCmp.ofNat_eq_ofNat_iff ha hb

/-- The device's own number. -/
theorem me_eq : ∀ d : Dev nD, me d = BitVec.ofNat 32 d.val := by decide +kernel

/-- The number the kernel compares destinations with at distance `s + 1`. -/
theorem to_word : ∀ (d : Dev nD) (s : Slot), Scalar.remsi (Scalar.addi (me d) (BitVec.ofNat 32 (s.val + 1))) 16#32 = BitVec.ofNat 32 (toDev d s).val := by
  decide +kernel

/-- No slot sends home, and every other device is some slot's. -/
theorem to_ne : ∀ (d : Dev nD) (s : Slot), toDev d s ≠ d := by decide +kernel
theorem to_inj : ∀ (d : Dev nD) (s s' : Slot), toDev d s = toDev d s' → s = s' := by decide +kernel
theorem to_onto : ∀ (d c : Dev nD), c ≠ d → ∃ s : Slot, toDev d s = c := by decide +kernel

/-- The name of local expert `j` of device `d`, as the kernel computes it. -/
theorem name_word0 : ∀ d : Dev nD, Scalar.addi (Scalar.muli (me d) 4#32) 0#32 = BitVec.ofNat 32 (4 * d.val) := by decide +kernel
theorem name_word1 : ∀ d : Dev nD, Scalar.addi (Scalar.muli (me d) 4#32) 1#32 = BitVec.ofNat 32 (4 * d.val + 1) := by decide +kernel
theorem name_word2 : ∀ d : Dev nD, Scalar.addi (Scalar.muli (me d) 4#32) 2#32 = BitVec.ofNat 32 (4 * d.val + 2) := by decide +kernel
theorem name_word3 : ∀ d : Dev nD, Scalar.addi (Scalar.muli (me d) 4#32) 3#32 = BitVec.ofNat 32 (4 * d.val + 3) := by decide +kernel

/-- The destination of a name: the kernel's division rounded down. -/
theorem dest_word : ∀ n : Fin 64,
    Scalar.select
      (IntOp.andi
        (IntOp.cmpi .ne
          (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 4#32 0#32)) (Scalar.extui (Scalar.cmpi .slt 4#32 0#32))))
        (IntOp.cmpi .ne (IntOp.remsi .vector (BitVec.ofNat 32 n.val) 4#32) 0#32))
      (IntOp.subi (IntOp.divsi .vector (BitVec.ofNat 32 n.val) 4#32) 1#32)
      (IntOp.divsi .vector (BitVec.ofNat 32 n.val) 4#32) = BitVec.ofNat 32 (n.val / 4) := by
  decide +kernel

/-- The local number of a name: the kernel's remainder with the sign of the divisor. -/
theorem local_word : ∀ n : Fin 64,
    Scalar.select
      (IntOp.andi
        (IntOp.xori
          (IntOp.cmpi .slt (IntOp.remsi .vector (BitVec.ofNat 32 n.val) (Scalar.select (Scalar.cmpi .eq 4#32 0#32) 1#32 4#32)) 0#32)
          (Scalar.cmpi .slt (Scalar.select (Scalar.cmpi .eq 4#32 0#32) 1#32 4#32) 0#32))
        (IntOp.cmpi .ne (IntOp.remsi .vector (BitVec.ofNat 32 n.val) (Scalar.select (Scalar.cmpi .eq 4#32 0#32) 1#32 4#32)) 0#32))
      (IntOp.addi (IntOp.remsi .vector (BitVec.ofNat 32 n.val) (Scalar.select (Scalar.cmpi .eq 4#32 0#32) 1#32 4#32))
        (Scalar.select (Scalar.cmpi .eq 4#32 0#32) 1#32 4#32))
      (IntOp.remsi .vector (BitVec.ofNat 32 n.val) (Scalar.select (Scalar.cmpi .eq 4#32 0#32) 1#32 4#32)) = BitVec.ofNat 32 (n.val % 4) := by
  decide +kernel

/-- A natural below 2³¹ as an extended real comes back as itself from the conversion to a word. -/
theorem fptosi_nat (n : ℕ) (h : n < 2147483648) : Ideal.fptosi 32 ((n : ℕ) : EReal) = BitVec.ofNat 32 n := by
  rw [Ideal.fptosi, show ((n : ℕ) : EReal) = (((n : ℕ) : ℝ) : EReal) from rfl, Ideal.toIntClamped_coe, if_pos (Nat.cast_nonneg n)]
  rw [Int.floor_natCast]
  rw [min_eq_right (by norm_num; omega), max_eq_right (by norm_num)]
  exact BitVec.ofInt_natCast 32 n

end Cert.Moe
-- ==== Proof.Place.lean ====
/-
The one-hot matrices read at an element. `dst e t` is the device that holds the expert token `t` names, `loc e t` the
expert's number there and `cnt e t` how many tokens up to `t` go where `t` goes. When every name is below 64, the
matrix of the slot that serves `t`'s destination has its one in row `t` at column `cnt e t - 1`, and the matrices of
the other slots have none.
-/
module

public import proofs.«01_k».proof.Proof.Words

@[expose] public section

noncomputable section

namespace Cert.Moe

open Cert.KernelIdeal Cert.KernelIdeal.Gen
open Idealize.ShloMosaic Idealize.SL.Sem
open scoped BigOperators

/-- Token `t`'s expert, the device that holds it, and its number there. -/
abbrev nam (e : Vec Ideal S1024x1 .i32) (t : Fin 1024) : ℕ := (e (ix2 t 0) : BitVec 32).toNat
abbrev dst (e : Vec Ideal S1024x1 .i32) (t : Fin 1024) : ℕ := nam e t / 4
abbrev loc (e : Vec Ideal S1024x1 .i32) (t : Fin 1024) : ℕ := nam e t % 4

/-- Every token names an expert. -/
def Named (e : Vec Ideal S1024x1 .i32) : Prop := ∀ t, nam e t < 64

variable {e : Vec Ideal S1024x1 .i32}

theorem word_eq (he : Named e) (t : Fin 1024) : (e (ix2 t 0) : BitVec 32) = BitVec.ofNat 32 (⟨nam e t, he t⟩ : Fin 64).val :=
  BitVec.eq_of_toNat_eq (by rw [BitVec.toNat_ofNat, Nat.mod_eq_of_lt (by have := he t; show nam e t < _; omega)])

theorem dst_lt (he : Named e) (t : Fin 1024) : dst e t < 16 := by
  have := he t
  show nam e t / 4 < 16
  omega

theorem pay7_apply (he : Named e) (t : Fin 1024) : k0_pay7 (F := Ideal) e (ix2 t 0) = BitVec.ofNat 32 (dst e t) := by
  pointwise [k0_pay7, k0_pay4]
  rw [word_eq he t]
  exact dest_word ⟨nam e t, he t⟩

/-- How many tokens up to `t` go to device `d`. -/
def cntTo (e : Vec Ideal S1024x1 .i32) (t : Fin 1024) (d : ℕ) : ℕ := (Finset.univ.filter fun u : Fin 1024 => u ≤ t ∧ dst e u = d).card
/-- How many tokens up to `t` go where `t` goes. -/
abbrev cnt (e : Vec Ideal S1024x1 .i32) (t : Fin 1024) : ℕ := cntTo e t (dst e t)

theorem cntTo_le (e : Vec Ideal S1024x1 .i32) (t : Fin 1024) (d : ℕ) : cntTo e t d ≤ 1024 :=
  (Finset.card_le_univ _).trans (by simp)

theorem cnt_pos (e : Vec Ideal S1024x1 .i32) (t : Fin 1024) : 1 ≤ cnt e t :=
  Finset.card_pos.mpr ⟨t, by simp⟩

/-- Two tokens with one destination and one count are one token. -/
theorem cnt_inj (e : Vec Ideal S1024x1 .i32) {t u : Fin 1024} (hd : dst e t = dst e u) (hc : cnt e t = cnt e u) : t = u := by
  have key : ∀ a b : Fin 1024, dst e a = dst e b → a < b → cnt e a < cnt e b := by
    intro a b hab hlt
    refine Finset.card_lt_card (Finset.ssubset_iff_of_subset ?_ |>.mpr ⟨b, ?_, ?_⟩)
    · intro u hu
      simp only [Finset.mem_filter, Finset.mem_univ, true_and] at hu ⊢
      exact ⟨hu.1.trans hlt.le, hu.2.trans hab⟩
    · simp
    · simp [hlt]
  rcases lt_trichotomy t u with h | h | h
  · exact absurd hc (key t u hd h).ne
  · exact h
  · exact absurd hc (key u t hd.symm h).ne'

theorem counts_apply (he : Named e) (t : Fin 1024) (d : Fin 16) : counts e (ix2 t d) = ((cntTo e t d.val : ℕ) : EReal) := by
  have h8 : ∀ u : Fin 1024, k0_pay8 (F := Ideal) e (ix2 u d) = if dst e u = d.val then 1 else 0 := by
    intro u
    pointwise [k0_pay8]
    rw [pay7_apply he u, select_cmpi_eq]
    have hu : dst e u < 16 := dst_lt he u
    refine if_congr ((ofNat_inj32 (by omega) (by omega)).trans eq_comm) rfl rfl
  have h9 : ∀ u : Fin 1024, k0_pay9 (ix2 t u) = BitVec.ofBool (decide (u ≤ t)) := by
    intro u
    pointwise [k0_pay9]
    rw [WordCmp.cmpi_sle_ofNat (by have := u.isLt; omega) (by have := t.isLt; omega)]
    rfl
  pointwise [counts, k0_pay10]
  simp only [h8, h9, WordCmp.select_ofBool, decide_eq_true_eq, ← ite_and]
  rw [← Finset.sum_filter, Finset.sum_const, cntTo]
  simp

theorem placeAt_apply (he : Named e) (c : Dev nD) (s : Slot) (t : Fin 1024) (r : Fin 128) :
    placeAt (me c) (BitVec.ofNat 32 (s.val + 1)) (k0_pay7 e) (counts e) (ix2 t r) = if dst e t = (toDev c s).val ∧ cnt e t = r.val + 1 then 1 else 0 := by
  have hd : (toDev c s).val < 16 := (toDev c s).isLt
  have hn : dst e t < 16 := dst_lt he t
  pointwise [placeAt, iota16, iota128]
  rw [to_word, pay7_apply he t]
  simp only [select_cmpi_eq]
  rw [Finset.sum_eq_single (⟨(toDev c s).val, hd⟩ : Fin 16)]
  · rw [if_pos rfl, counts_apply he]
    by_cases h : dst e t = (toDev c s).val
    · rw [show cnt e t = cntTo e t (toDev c s).val by rw [cnt, h]]
      have h1 : 1 ≤ cntTo e t (toDev c s).val := by rw [← h]; exact cnt_pos e t
      have h2 := cntTo_le e t (toDev c s).val
      show (if BitVec.ofNat 32 r.val = IntOp.subi (Ideal.fptosi 32 ((cntTo e t (toDev c s).val : ℕ) : EReal)) 1#32 then _ else _) = _
      rw [fptosi_nat _ (by omega)]
      have h3 : IntOp.subi (BitVec.ofNat 32 (cntTo e t (toDev c s).val)) 1#32 = BitVec.ofNat 32 (cntTo e t (toDev c s).val - 1) := by
        apply BitVec.eq_of_toNat_eq
        rw [IntOp.subi, BitVec.toNat_sub, BitVec.toNat_ofNat, BitVec.toNat_ofNat, BitVec.toNat_ofNat, Nat.mod_eq_of_lt (a := cntTo e t (toDev c s).val) (by omega)]
        omega
      rw [h3, h, if_pos rfl]
      refine if_congr ((ofNat_inj32 (by have := r.isLt; omega) (by omega)).trans ?_) rfl rfl
      constructor
      · intro h4; exact ⟨rfl, by omega⟩
      · intro h4; omega
    · have hq : ¬BitVec.ofNat 32 (dst e t) = BitVec.ofNat 32 (toDev c s).val := fun h4 => h ((ofNat_inj32 (by omega) (by omega)).mp h4)
      rw [if_neg hq, ite_self, if_neg (fun h4 => h h4.1)]
  · intro b _ hb
    rw [if_neg]
    intro h4
    exact hb (Fin.ext ((ofNat_inj32 (by have := b.isLt; omega) (by omega)).mp h4))
  · intro h; exact absurd (Finset.mem_univ _) h

end Cert.Moe
-- ==== Proof.Packets.lean ====
/-
The fifteen one-hot matrices side by side and the packets they cut, read at an element: the row of a packet that a token
is placed in holds the token's gated features and the one-hot of its local expert.
-/
module

public import proofs.«01_k».proof.Proof.Place

@[expose] public section

noncomputable section

namespace Cert.Moe

open Cert.KernelIdeal Cert.KernelIdeal.Gen
open Idealize.ShloMosaic Idealize.SL.Sem
open scoped BigOperators

variable {e : Vec Ideal S1024x1 .i32}

/-- The column of the matrices that row `r` of slot `s` is. -/
abbrev colOf (s : Slot) (r : Fin 128) : Fin 1920 := ⟨128 * s.val + r.val, by have := s.isLt; have := r.isLt; omega⟩

theorem exists_colOf (q : Fin 1920) : ∃ s r, q = colOf s r :=
  ⟨⟨q.val / 128, by have := q.isLt; omega⟩, ⟨q.val % 128, by omega⟩, Fin.ext (by show q.val = 128 * (q.val / 128) + q.val % 128; omega)⟩

/-- The matrices side by side, as a family. -/
theorem placeAll_eq (v2 : BitVec 32) (v112 : IVec S1024x1 32) (v125 : FVec Ideal S1024x16 .f32)
    (h : Shape.Concatenates ((List.ofFn fun s : Slot => (⟨S1024x128, placeAt v2 (BitVec.ofNat 32 (s.val + 1)) v112 v125⟩ : (s : Shape) × (s.Idx → Elt Ideal .f32))).map (·.1)) S1024x1920 1) :
    placeAll v2 v112 v125 = concatenate S1024x1920 1
      (List.ofFn fun s : Slot => (⟨S1024x128, placeAt v2 (BitVec.ofNat 32 (s.val + 1)) v112 v125⟩ : (s : Shape) × (s.Idx → Elt Ideal .f32))) h := rfl

theorem placeAll_apply (v2 : BitVec 32) (v112 : IVec S1024x1 32) (v125 : FVec Ideal S1024x16 .f32) (t : Fin 1024) (s : Slot) (r : Fin 128) :
    placeAll v2 v112 v125 (ix2 t (colOf s r)) = placeAt v2 (BitVec.ofNat 32 (s.val + 1)) v112 v125 (ix2 t r) := by
  rw [placeAll_eq v2 v112 v125 (concatenates_S1024x128_S1024x128_S1024x128_S1024x128_S1024x128_S1024x128_S1024x128_S1024x128_S1024x128_S1024x128_S1024x128_S1024x128_S1024x128_S1024x128_S1024x128_S1024x1920_d1)]
  refine concatenate_ofFn_apply (t := S1024x1920) (s₁ := S1024x128) (1 : Fin S1024x1920.rank) (fun s : Slot => placeAt v2 (BitVec.ofNat 32 (s.val + 1)) v112 v125) _ rfl 128 rfl (ix2 t (colOf s r)) s ?_ (ix2 t r) ?_ ?_
  · show (128 * s.val + r.val) / 128 = s.val
    have := r.isLt; omega
  · show r.val = (128 * s.val + r.val) % 128
    have := r.isLt; omega
  · intro b hb
    match b with
    | ⟨0, _⟩ => rfl
    | ⟨1, _⟩ => exact absurd rfl hb

/-- Row `t` of the matrices: a one at the column `t` is placed in. -/
theorem place_apply (he : Named e) (c : Dev nD) (t : Fin 1024) (s : Slot) (r : Fin 128) :
    place c e (ix2 t (colOf s r)) = if dst e t = (toDev c s).val ∧ cnt e t = r.val + 1 then 1 else 0 := by
  rw [place, placeAll_apply, placeAt_apply he]

/-- A sum over the rows of the matrices against the column a token is placed in is the term at that token. -/
theorem sum_column (he : Named e) (c : Dev nD) (t : Fin 1024) (s : Slot) (r : Fin 128) (hd : dst e t = (toDev c s).val) (hc : cnt e t = r.val + 1)
    (f : Fin 1024 → EReal) : ∑ u, place c e (ix2 u (colOf s r)) * f u = f t := by
  rw [Finset.sum_eq_single t]
  · rw [place_apply he, if_pos ⟨hd, hc⟩, one_mul]
  · intro u _ hu
    rw [place_apply he, if_neg (fun h => hu (cnt_inj e (h.1.trans hd.symm) (h.2.trans hc.symm))), zero_mul]
  · intro h; exact absurd (Finset.mem_univ _) h

/-- A sum over the columns against the row of a token that is sent is the term at the column it is placed in, -/
theorem sum_row (he : Named e) (c : Dev nD) (t : Fin 1024) (s : Slot) (r : Fin 128) (hd : dst e t = (toDev c s).val) (hc : cnt e t = r.val + 1)
    (f : Fin 1920 → EReal) : ∑ q, place c e (ix2 t q) * f q = f (colOf s r) := by
  rw [Finset.sum_eq_single (colOf s r)]
  · rw [place_apply he, if_pos ⟨hd, hc⟩, one_mul]
  · intro q _ hq
    obtain ⟨s', r', rfl⟩ := exists_colOf q
    rw [place_apply he, if_neg, zero_mul]
    rintro ⟨h1, h2⟩
    have hs : s = s' := to_inj c s s' (Fin.ext (hd.symm.trans h1))
    have hr : r = r' := Fin.ext (by omega)
    exact hq (by rw [hs, hr])
  · intro h; exact absurd (Finset.mem_univ _) h

/-- and against the row of a token that stays it is nothing. -/
theorem sum_row_home (he : Named e) (c : Dev nD) (t : Fin 1024) (hd : dst e t = c.val) (f : Fin 1920 → EReal) : ∑ q, place c e (ix2 t q) * f q = 0 := by
  refine Finset.sum_eq_zero fun q _ => ?_
  obtain ⟨s, r, rfl⟩ := exists_colOf q
  rw [place_apply he, if_neg, zero_mul]
  rintro ⟨h1, _⟩
  exact to_ne c s (Fin.ext (h1.symm.trans hd))

/-- The printed packets read at a feature column, -/
theorem pay43_feature (P : FVec Ideal S1024x1920 .f32) (X : FVec Ideal S1920x256 .f32) (i4 : IVec S1024x4 32) (a : IVec S1024x1 32) (b : IVec S1024x1 1)
    (c : IVec S1024x1 32) (q : Fin 1920) (k : Fin 256) : k0_pay43 P X i4 a b c (ix2 q ⟨k.val, by have := k.isLt; omega⟩) = X (ix2 q k) := by
  pointwise [k0_pay43]

/-- and at a column of the one-hot. -/
theorem pay43_local (P : FVec Ideal S1024x1920 .f32) (X : FVec Ideal S1920x256 .f32) (i4 : IVec S1024x4 32) (a : IVec S1024x1 32) (b : IVec S1024x1 1)
    (c : IVec S1024x1 32) (q : Fin 1920) (j : Fin 4) : k0_pay43 P X i4 a b c (ix2 q ⟨256 + j.val, by have := j.isLt; omega⟩)
      = ∑ u, Scalar.select (IntOp.cmpi .eq (i4 (ix2 u j)) (Scalar.select (b (ix2 u 0)) (IntOp.addi (a (ix2 u 0)) (c (ix2 u 0))) (a (ix2 u 0)))) (P (ix2 u q)) 0 := by
  pointwise [k0_pay43]

theorem gathered_apply (P : FVec Ideal S1024x1920 .f32) (X : FVec Ideal S1024x256 .f32) (q : Fin 1920) (k : Fin 256) :
    matmul dot_S1024x1920_S1024x256_S1920x256_0_0_1_1_n_n none P X (constant S1920x256 .f32 0x00000000#32) (ix2 q k) = ∑ u, P (ix2 u q) * X (ix2 u k) := by
  pointwise

theorem packet_apply (c : Dev nD) (x : Vec Ideal S1024x256 .f32) (r : Vec Ideal S256x64 .f32) (e : Vec Ideal S1024x1 .i32) (s : Slot) (q : Fin 128) (l : Fin 384) :
    packet c x r e s (ix3 0 q l) = packets c x r e (ix2 (colOf s q) l) := by
  pointwise [packet]

/-- The word compared with the one-hot's column is the token's local expert. -/
theorem local_apply (he : Named e) (t : Fin 1024) (j : Fin 4) (y : EReal) :
    Scalar.select (IntOp.cmpi .eq (iota .tc S1024x4 32 [1] iota_S1024x4_d1_w32 (ix2 t j))
      (Scalar.select (k0_pay41 (k0_pay4 (F := Ideal) e) (ix2 t 0)) (IntOp.addi (k0_pay40 (k0_pay4 (F := Ideal) e) (ix2 t 0)) (k0_pay42 (ix2 t 0)))
        (k0_pay40 (k0_pay4 (F := Ideal) e) (ix2 t 0)))) y 0 = y * if loc e t = j.val then 1 else 0 := by
  pointwise [k0_pay41, k0_pay42, k0_pay40, k0_pay4]
  rw [word_eq he t, local_word ⟨nam e t, he t⟩, select_cmpi_eq]
  have key : BitVec.ofNat 32 j.val = BitVec.ofNat 32 (nam e t % 4) ↔ nam e t % 4 = j.val :=
    (ofNat_inj32 (by have := j.isLt; omega) (by omega)).trans eq_comm
  by_cases h : nam e t % 4 = j.val
  · rw [if_pos (key.mpr h), if_pos h, mul_one]
  · rw [if_neg (mt key.mp h), if_neg h, mul_zero]

variable (x : Vec Ideal S1024x256 .f32) (r : Vec Ideal S256x64 .f32)

/-- The gate of a token. -/
abbrev gate (e : Vec Ideal S1024x1 .i32) (t : Fin 1024) : EReal := gateCol (F := Ideal) x r e (ix2 t 0)

/-- The row a token is placed in holds the token's features times its gate, -/
theorem packet_feature (he : Named e) (c : Dev nD) (t : Fin 1024) (s : Slot) (q : Fin 128) (hd : dst e t = (toDev c s).val) (hc : cnt e t = q.val + 1)
    (k : Fin 256) : packet (F := Ideal) c x r e s (ix3 0 q ⟨k.val, by have := k.isLt; omega⟩) = x (ix2 t k) * gate x r e t := by
  rw [packet_apply, packets, pay43_feature, gathered_apply, sum_column he c t s q hd hc fun u => gatedX (F := Ideal) x r e (ix2 u k)]
  pointwise [gatedX, k0_pay6, k0_pay1]

/-- and the one-hot of its local expert. -/
theorem packet_local (he : Named e) (c : Dev nD) (t : Fin 1024) (s : Slot) (q : Fin 128) (hd : dst e t = (toDev c s).val) (hc : cnt e t = q.val + 1)
    (j : Fin 4) : packet (F := Ideal) c x r e s (ix3 0 q ⟨256 + j.val, by have := j.isLt; omega⟩) = if loc e t = j.val then 1 else 0 := by
  rw [packet_apply, packets, pay43_local, Finset.sum_congr rfl fun u _ => local_apply he u j _]
  exact sum_column he c t s q hd hc fun u => if loc e u = j.val then 1 else 0

end Cert.Moe
-- ==== Proof.Product.lean ====
/-
A device's result read at an element, for expert names below 64 and at most 128 tokens to any one other device: the
product of the token's features with the shared weights plus the product of its gated features with the weights of the
expert it names, whichever device holds them.
-/
module

public import proofs.«01_k».proof.Proof.Packets
public import proofs.«01_k».proof.Proof.Protocol

@[expose] public section

noncomputable section

namespace Cert.Moe

open Cert.KernelIdeal Cert.KernelIdeal.Gen
open Idealize.ShloMosaic Idealize.SL.Sem
open scoped BigOperators

variable {e : Vec Ideal S1024x1 .i32}

/-- Four terms of which one is chosen. -/
theorem sum_chosen (n : ℕ) (hn : n < 4) (f : Fin 4 → EReal) :
    (if n = 0 then f 0 else 0) + (if n = 1 then f 1 else 0) + (if n = 2 then f 2 else 0) + (if n = 3 then f 3 else 0) = f ⟨n, hn⟩ := by
  interval_cases n <;> simp

/-- A reply read at an element. -/
theorem reply_apply (p : Vec Ideal S1x128x384 .bf16) (E : Fin 4 → Vec Ideal S1x256x512 .f32) (q : Fin 128) (h : Fin 512) :
    reply p E (ix3 0 q h)
      = (∑ k : Fin 256, p (ix3 0 q ⟨k.val, by have := k.isLt; omega⟩) * p (ix3 0 q ⟨256 + (0 : Fin 4).val, by decide⟩) * E 0 (ix3 0 k h))
        + (∑ k : Fin 256, p (ix3 0 q ⟨k.val, by have := k.isLt; omega⟩) * p (ix3 0 q ⟨256 + (1 : Fin 4).val, by decide⟩) * E 1 (ix3 0 k h))
        + (∑ k : Fin 256, p (ix3 0 q ⟨k.val, by have := k.isLt; omega⟩) * p (ix3 0 q ⟨256 + (2 : Fin 4).val, by decide⟩) * E 2 (ix3 0 k h))
        + (∑ k : Fin 256, p (ix3 0 q ⟨k.val, by have := k.isLt; omega⟩) * p (ix3 0 q ⟨256 + (3 : Fin 4).val, by decide⟩) * E 3 (ix3 0 k h)) := by
  pointwise [reply, k0_pay64, k0_pay65, k0_pay66, k0_pay67]

variable (x : Vec Ideal S1024x256 .f32) (r : Vec Ideal S256x64 .f32)

/-- The product of a token's gated features with column `h` of an expert's weights. -/
abbrev gatedProduct (e : Vec Ideal S1024x1 .i32) (t : Fin 1024) (E : Vec Ideal S1x256x512 .f32) (h : Fin 512) : EReal :=
  ∑ k : Fin 256, x (ix2 t k) * gate x r e t * E (ix3 0 k h)

/-- The reply row of a token that is sent is its product with its expert's weights. -/
theorem reply_row (he : Named e) (c : Dev nD) (t : Fin 1024) (s : Slot) (q : Fin 128) (hd : dst e t = (toDev c s).val) (hc : cnt e t = q.val + 1)
    (E : Fin 4 → Vec Ideal S1x256x512 .f32) (h : Fin 512) :
    reply (packet (F := Ideal) c x r e s) E (ix3 0 q h) = gatedProduct x r e t (E ⟨loc e t, by show nam e t % 4 < 4; omega⟩) h := by
  rw [reply_apply]
  simp only [packet_feature x r he c t s q hd hc, packet_local x r he c t s q hd hc]
  have one : ∀ j : Fin 4, (∑ k : Fin 256, x (ix2 t k) * gate x r e t * (if loc e t = j.val then 1 else 0) * E j (ix3 0 k h))
      = if loc e t = j.val then gatedProduct x r e t (E j) h else 0 := by
    intro j
    by_cases hj : loc e t = j.val
    · simp only [if_pos hj, mul_one]
    · simp only [if_neg hj, mul_zero, zero_mul, Finset.sum_const_zero]
  rw [one 0, one 1, one 2, one 3]
  exact sum_chosen (loc e t) _ fun j => gatedProduct x r e t (E j) h

/-- A device's own products read at an element. -/
theorem localPart_apply (he : Named e) (d : Dev nD) (w : Vec Ideal S256x512 .f32) (E : Fin 4 → Vec Ideal S1x256x512 .f32) (t : Fin 1024) (h : Fin 512) :
    localPart d x r e w E (ix2 t h)
      = (∑ k : Fin 256, x (ix2 t k) * w (ix2 k h))
        + if dst e t = d.val then gatedProduct x r e t (E ⟨loc e t, by show nam e t % 4 < 4; omega⟩) h else 0 := by
  have hd : d.val < 16 := d.isLt
  have one : ∀ j : Fin 4, (∑ k : Fin 256, Scalar.select (IntOp.cmpi .eq (e (ix2 t 0)) (BitVec.ofNat 32 (4 * d.val + j.val)))
      (x (ix2 t k) * gateCol x r e (ix2 t 0) * E j (ix3 0 k h)) 0)
      = if nam e t = 4 * d.val + j.val then gatedProduct x r e t (E j) h else 0 := by
    intro j
    have key : (e (ix2 t 0) : BitVec 32) = BitVec.ofNat 32 (4 * d.val + j.val) ↔ nam e t = 4 * d.val + j.val := by
      rw [word_eq he t]
      exact ofNat_inj32 (by have := he t; show nam e t < _; omega) (by have := j.isLt; omega)
    simp only [select_cmpi_eq]
    by_cases hj : nam e t = 4 * d.val + j.val
    · simp only [if_pos (key.mpr hj), if_pos hj]
    · simp only [if_neg (mt key.mp hj), if_neg hj, Finset.sum_const_zero]
  pointwise [localPart, k0_pay1, k0_pay61, k0_pay62, k0_pay63, k0_pay4]
  rw [name_word0, name_word1, name_word2, name_word3]
  have o0 := one 0
  have o1 := one 1
  have o2 := one 2
  have o3 := one 3
  simp only [Fin.val_zero, Fin.val_one, Fin.val_two, show (3 : Fin 4).val = 3 from rfl, add_zero] at o0 o1 o2 o3
  rw [o0, o1, o2, o3]
  by_cases hh : dst e t = d.val
  · have hl : nam e t = 4 * d.val + loc e t := by
      have : nam e t / 4 = d.val := hh
      show nam e t = 4 * d.val + nam e t % 4
      omega
    rw [if_pos hh, ← sum_chosen (loc e t) (by show nam e t % 4 < 4; omega) fun j => gatedProduct x r e t (E j) h]
    have e0 : (nam e t = 4 * d.val) ↔ loc e t = 0 := by omega
    have e1 : (nam e t = 4 * d.val + 1) ↔ loc e t = 1 := by omega
    have e2 : (nam e t = 4 * d.val + 2) ↔ loc e t = 2 := by omega
    have e3 : (nam e t = 4 * d.val + 3) ↔ loc e t = 3 := by omega
    simp only [e0, e1, e2, e3, add_assoc]
  · have hn : ∀ j, j < 4 → ¬nam e t = 4 * d.val + j := by
      intro j hj hc
      refine hh ?_
      show nam e t / 4 = d.val
      omega
    rw [if_neg hh, if_neg (show ¬nam e t = 4 * d.val from hn 0 (by decide)), if_neg (hn 1 (by decide)), if_neg (hn 2 (by decide)), if_neg (hn 3 (by decide))]
    simp only [add_zero]

/-- The fifteen replies one under the other. -/
def rows (y : Slot → Vec Ideal S1x128x512 .bf16) : FVec Ideal S1920x512 .f32 :=
  concatenate S1920x512 0 (List.ofFn fun s : Slot => (⟨S128x512, k0_pay130 (F := Ideal) (y s)⟩ : (s : Shape) × (s.Idx → Elt Ideal .f32)))
    concatenates_S128x512_S128x512_S128x512_S128x512_S128x512_S128x512_S128x512_S128x512_S128x512_S128x512_S128x512_S128x512_S128x512_S128x512_S128x512_S1920x512_d0

theorem rows_apply (y : Slot → Vec Ideal S1x128x512 .bf16) (s : Slot) (q : Fin 128) (h : Fin 512) : rows y (ix2 (colOf s q) h) = y s (ix3 0 q h) := by
  have piece : k0_pay130 (F := Ideal) (y s) (ix2 q h) = y s (ix3 0 q h) := by
    pointwise [k0_pay130]
  rw [← piece, rows]
  refine concatenate_ofFn_apply (t := S1920x512) (s₁ := S128x512) (0 : Fin S1920x512.rank) (fun s : Slot => k0_pay130 (F := Ideal) (y s)) _ rfl 128 rfl (ix2 (colOf s q) h) s ?_ (ix2 q h) ?_ ?_
  · show (128 * s.val + q.val) / 128 = s.val
    have := q.isLt; omega
  · show q.val = (128 * s.val + q.val) % 128
    have := q.isLt; omega
  · intro b hb
    match b with
    | ⟨0, _⟩ => exact absurd rfl hb
    | ⟨1, _⟩ => rfl

theorem spread_apply (P : FVec Ideal S1024x1920 .f32) (acc : FVec Ideal S1024x512 .f32) (Y : FVec Ideal S1920x512 .f32) (t : Fin 1024) (h : Fin 512) :
    addf acc (matmul dot_S1024x1920_S1920x512_S1024x512_1_0_0_1_n_n none P Y (constant S1024x512 .f32 0x00000000#32)) (ix2 t h)
      = acc (ix2 t h) + ∑ q, P (ix2 t q) * Y (ix2 q h) := by
  pointwise

/-- The result is the device's own products plus the replies, each row of the matrices choosing its reply row. -/
theorem gather_eq (P : FVec Ideal S1024x1920 .f32) (acc : FVec Ideal S1024x512 .f32) (y : Slot → Vec Ideal S1x128x512 .bf16) :
    gather P acc y = addf acc (matmul dot_S1024x1920_S1920x512_S1024x512_1_0_0_1_n_n none P (rows y) (constant S1024x512 .f32 0x00000000#32)) := rfl

theorem gather_apply (P : FVec Ideal S1024x1920 .f32) (acc : FVec Ideal S1024x512 .f32) (y : Slot → Vec Ideal S1x128x512 .bf16) (t : Fin 1024) (h : Fin 512) :
    gather P acc y (ix2 t h) = acc (ix2 t h) + ∑ q, P (ix2 t q) * rows y (ix2 q h) := by
  rw [gather_eq, spread_apply]

/-- A device's result at an element, given that what the other devices answer are the replies to its packets. -/
theorem result_apply (he : Named e) (fits : ∀ t, cnt e t ≤ 128) (c : Dev nD) (w : Vec Ideal S256x512 .f32) (E : Dev nD → Fin 4 → Vec Ideal S1x256x512 .f32)
    (t : Fin 1024) (h : Fin 512) :
    gather (place c e) (localPart c x r e w (E c)) (fun s => reply (packet c x r e s) (E (toDev c s))) (ix2 t h)
      = (∑ k : Fin 256, x (ix2 t k) * w (ix2 k h))
        + gatedProduct x r e t (E ⟨dst e t, dst_lt he t⟩ ⟨loc e t, by show nam e t % 4 < 4; omega⟩) h := by
  rw [gather_apply, localPart_apply x r he c w (E c) t h]
  by_cases hd : dst e t = c.val
  · rw [sum_row_home he c t hd, if_pos hd, add_zero]
    have : (⟨dst e t, dst_lt he t⟩ : Dev nD) = c := Fin.ext hd
    rw [this]
  · obtain ⟨s, hs⟩ := to_onto (d := c) (c := ⟨dst e t, dst_lt he t⟩) (fun hc => hd (congrArg Fin.val hc))
    have hds : dst e t = (toDev c s).val := (congrArg Fin.val hs).symm
    have hp := cnt_pos e t
    have hf := fits t
    have hc : cnt e t = (⟨cnt e t - 1, by omega⟩ : Fin 128).val + 1 := by show cnt e t = cnt e t - 1 + 1; omega
    rw [sum_row he c t s ⟨cnt e t - 1, by omega⟩ hds hc, rows_apply, reply_row x r he c t s _ hds hc, if_neg hd, add_zero, hs]

/-- The result of a device in a memory. -/
theorem resultOf_apply (m : (ℓ : Loc nD τ sig) → Buf (Elt Ideal) ℓ) (c : Dev nD) (he : Named (iOf m c)) (fits : ∀ t, cnt (iOf m c) t ≤ 128) (t : Fin 1024) (h : Fin 512) :
    resultOf m c (ix2 t h)
      = (∑ k : Fin 256, xOf m c (ix2 t k) * wOf m c (ix2 k h))
        + gatedProduct (xOf m c) (rOf m c) (iOf m c) t (expertOf m ⟨dst (iOf m c) t, dst_lt he t⟩ ⟨loc (iOf m c) t, by show nam (iOf m c) t % 4 < 4; omega⟩) h := by
  rw [← result_apply (xOf m c) (rOf m c) he fits c (wOf m c) (expertOf m) t h]
  unfold resultOf replyOf packetOf
  simp only [from_to]

end Cert.Moe
-- ==== Proof.Whole.lean ====
/-
The blocks of the one-point grid are the whole arrays: what a device's kernel reads is the device's argument, and an
expert's weights are a slice of the device's.
-/
module

public import proofs.«01_k».proof.Proof.Product

@[expose] public section

noncomputable section

namespace Cert.Moe

open Cert.KernelIdeal Cert.KernelIdeal.Gen
open Idealize.ShloMosaic Idealize.SL.Sem
open scoped BigOperators

variable (m : (ℓ : Loc nD τ sig) → Buf (Elt Ideal) ℓ) (c : Dev nD)

theorem xOf_eq : xOf m c = m ((c.tc : Thread nD τ).loc main_arg0) := by
  funext i
  unfold xOf
  rw [View.read_apply]
  refine (cast_eq _ _).trans (congrArg (m ((c.tc : Thread nD τ).loc main_arg0)) ?_)
  funext a
  refine Fin.ext ?_
  match a with
  | ⟨0, _⟩ => show 0 * 1024 + 1 * (i 0).val = (i 0).val; omega
  | ⟨1, _⟩ => show 0 * 256 + 1 * (i 1).val = (i 1).val; omega

theorem rOf_eq : rOf m c = m ((c.tc : Thread nD τ).loc main_arg1) := by
  funext i
  unfold rOf
  rw [View.read_apply]
  refine (cast_eq _ _).trans (congrArg (m ((c.tc : Thread nD τ).loc main_arg1)) ?_)
  funext a
  refine Fin.ext ?_
  match a with
  | ⟨0, _⟩ => show 0 * 256 + 1 * (i 0).val = (i 0).val; omega
  | ⟨1, _⟩ => show 0 * 64 + 1 * (i 1).val = (i 1).val; omega

theorem iOf_eq : iOf m c = m ((c.tc : Thread nD τ).loc main_arg2) := by
  funext i
  unfold iOf
  rw [View.read_apply]
  refine (cast_eq _ _).trans (congrArg (m ((c.tc : Thread nD τ).loc main_arg2)) ?_)
  funext a
  refine Fin.ext ?_
  match a with
  | ⟨0, _⟩ => show 0 * 1024 + 1 * (i 0).val = (i 0).val; omega
  | ⟨1, _⟩ => show 0 * 1 + 1 * (i 1).val = (i 1).val; omega

theorem eOf_eq : eOf m c = m ((c.tc : Thread nD τ).loc main_arg3) := by
  funext i
  unfold eOf
  rw [View.read_apply]
  refine (cast_eq _ _).trans (congrArg (m ((c.tc : Thread nD τ).loc main_arg3)) ?_)
  funext a
  refine Fin.ext ?_
  match a with
  | ⟨0, _⟩ => show 0 * 4 + 1 * (i 0).val = (i 0).val; omega
  | ⟨1, _⟩ => show 0 * 256 + 1 * (i 1).val = (i 1).val; omega
  | ⟨2, _⟩ => show 0 * 512 + 1 * (i 2).val = (i 2).val; omega

theorem wOf_eq : wOf m c = m ((c.tc : Thread nD τ).loc main_arg4) := by
  funext i
  unfold wOf
  rw [View.read_apply]
  refine (cast_eq _ _).trans (congrArg (m ((c.tc : Thread nD τ).loc main_arg4)) ?_)
  funext a
  refine Fin.ext ?_
  match a with
  | ⟨0, _⟩ => show 0 * 256 + 1 * (i 0).val = (i 0).val; omega
  | ⟨1, _⟩ => show 0 * 512 + 1 * (i 1).val = (i 1).val; omega

/-- The result's block is the whole result array. -/
theorem out_eq (f : Buf (Elt Ideal) ((c.tc : Thread nD τ).loc main_v1)) : (win0_5.blk (0 : Fin 1)).view.read (Elt Ideal) f = f := by
  funext i
  rw [View.read_apply]
  refine (cast_eq _ _).trans (congrArg f ?_)
  funext a
  refine Fin.ext ?_
  match a with
  | ⟨0, _⟩ => show 0 * 1024 + 1 * (i 0).val = (i 0).val; omega
  | ⟨1, _⟩ => show 0 * 512 + 1 * (i 1).val = (i 1).val; omega

theorem expert_apply (j : Fin 4) (k : Fin 256) (h : Fin 512) : expertOf m c j (ix3 0 k h) = eOf m c (ix3 j k h) := by
  unfold expertOf
  rw [View.readAt_apply, View.read_apply]
  refine (cast_eq _ _).trans (congrArg (eOf m c) ?_)
  funext a
  refine Fin.ext ?_
  match a with
  | ⟨0, _⟩ => show j.val + 1 * 0 = j.val; omega
  | ⟨1, _⟩ => show 0 + 1 * k.val = k.val; omega
  | ⟨2, _⟩ => show 0 + 1 * h.val = h.val; omega

end Cert.Moe
-- ==== Proof.Gate.lean ====
/-
The gate of a token: the softmax of its router scores at the expert it names. With a finite largest score the softmax is
a real number at least zero, so it may be taken out of a sum.
-/
module

public import proofs.«01_k».proof.Proof.Product

@[expose] public section

noncomputable section

namespace Cert.Moe

open Cert.KernelIdeal Cert.KernelIdeal.Gen
open Idealize.ShloMosaic Idealize.SL.Sem
open scoped BigOperators

/-- The largest of 64 scores. -/
def top (s : Fin 64 → EReal) : EReal := Finset.univ.fold max (Ideal.ofBits FTy.f32 0xFF800000#32) s

/-- The softmax of 64 scores at one of them. -/
def soft (s : Fin 64 → EReal) (n : Fin 64) : EReal := Ideal.div (Ideal.exp (s n - top s)) (∑ l, Ideal.exp (s l - top s))

theorem ninf : Ideal.ofBits FTy.f32 0xFF800000#32 = ⊥ := by
  simp [Ideal.ofBits, Ideal.ieee]

theorem pinf : Ideal.ofBits FTy.f32 0x7F800000#32 = ⊤ := by
  simp [Ideal.ofBits, Ideal.ieee]

theorem le_top (s : Fin 64 → EReal) (l : Fin 64) : s l ≤ top s :=
  (Finset.le_fold_max _).mpr (Or.inr ⟨l, Finset.mem_univ _, le_rfl⟩)

theorem exists_ne_bot (s : Fin 64 → EReal) (h : top s ≠ ⊥) : ∃ l, s l ≠ ⊥ := by
  by_contra hn
  refine h (le_bot_iff.mp ?_)
  unfold top
  rw [Finset.fold_max_le, ninf]
  exact ⟨le_rfl, fun l _ => (not_not.mp fun hl => hn ⟨l, hl⟩).le⟩

/-- Each exponential is a real number at least zero, above zero at a score that is not −∞. -/
theorem exp_real (s : Fin 64 → EReal) (M : ℝ) (hM : top s = M) (l : Fin 64) :
    ∃ a : ℝ, 0 ≤ a ∧ (s l ≠ ⊥ → 0 < a) ∧ Ideal.exp (s l - top s) = (a : EReal) := by
  have hle := le_top s l
  rw [hM] at hle ⊢
  generalize s l = y at hle
  induction y using EReal.rec with
  | bot => exact ⟨0, le_rfl, fun h => absurd rfl h, by simp⟩
  | coe y =>
    refine ⟨Real.exp (y - M), (Real.exp_pos _).le, fun _ => Real.exp_pos _, ?_⟩
    rw [← EReal.coe_sub, Ideal.exp_coe]
  | top => exact absurd (top_le_iff.mp hle) (EReal.coe_ne_top M)

theorem coe_sum (a : Fin 64 → ℝ) : (∑ l, (a l : EReal)) = ((∑ l, a l : ℝ) : EReal) := by
  have key : ∀ S : Finset (Fin 64), (∑ l ∈ S, (a l : EReal)) = ((∑ l ∈ S, a l : ℝ) : EReal) := by
    intro S
    induction S using Finset.induction_on with
    | empty => simp
    | insert l S hl ih => rw [Finset.sum_insert hl, Finset.sum_insert hl, ih, EReal.coe_add]
  exact key _

/-- The softmax at a finite largest score. -/
theorem soft_real (s : Fin 64 → EReal) (h0 : top s ≠ ⊥) (h1 : top s ≠ ⊤) (n : Fin 64) : ∃ g : ℝ, 0 ≤ g ∧ soft s n = (g : EReal) := by
  obtain ⟨M, hM⟩ : ∃ M : ℝ, top s = M := ⟨(top s).toReal, (EReal.coe_toReal h1 h0).symm⟩
  choose a ha hpos he using exp_real s M hM
  obtain ⟨l0, hl0⟩ := exists_ne_bot s h0
  have hsum : 0 < ∑ l, a l := Finset.sum_pos' (fun l _ => ha l) ⟨l0, Finset.mem_univ _, hpos l0 hl0⟩
  refine ⟨a n * (1 / ∑ l, a l), mul_nonneg (ha n) (one_div_nonneg.mpr hsum.le), ?_⟩
  unfold soft
  simp only [he]
  rw [coe_sum, Ideal.div_coe hsum.ne', ← EReal.coe_mul]

/-- A real number at least zero comes out of a sum of products. -/
theorem mul_sum_real (g : ℝ) (hg : 0 ≤ g) (f : Fin 256 → EReal) : (g : EReal) * ∑ k, f k = ∑ k, (g : EReal) * f k := by
  have key : ∀ S : Finset (Fin 256), (g : EReal) * ∑ k ∈ S, f k = ∑ k ∈ S, (g : EReal) * f k := by
    intro S
    induction S using Finset.induction_on with
    | empty => simp
    | insert k S hk ih =>
      rw [Finset.sum_insert hk, Finset.sum_insert hk, EReal.left_distrib_of_nonneg_of_ne_top (EReal.coe_nonneg.mpr hg) (EReal.coe_ne_top g), ih]
  exact key _

variable (x : Vec Ideal S1024x256 .f32) (r : Vec Ideal S256x64 .f32) {e : Vec Ideal S1024x1 .i32}

/-- The router's scores of a token. -/
abbrev score (t : Fin 1024) (l : Fin 64) : EReal := ∑ k : Fin 256, x (ix2 t k) * r (ix2 k l)

theorem gate_eq (he : Named e) (t : Fin 1024) : gate x r e t = soft (score x r t) ⟨nam e t, he t⟩ := by
  have step : gate x r e t = ∑ l : Fin 64, Scalar.select (IntOp.cmpi .eq (BitVec.ofNat 32 l.val) (e (ix2 t 0))) (soft (score x r t) l) 0 := by
    unfold soft top score
    show k0_pay5 (k0_pay2 x r) (k0_pay3 x r) e (ix2 t 0) = _
    pointwise [k0_pay5, k0_pay3, k0_pay2, k0_pay1, k0_pay4]
  rw [step, Finset.sum_eq_single (⟨nam e t, he t⟩ : Fin 64)]
  · rw [select_cmpi_eq, word_eq he t, if_pos rfl]
  · intro l _ hl
    rw [select_cmpi_eq, word_eq he t, if_neg]
    intro h
    exact hl (Fin.ext ((ofNat_inj32 (by omega) (by have := he t; show nam e t < _; omega)).mp h))
  · intro h; exact absurd (Finset.mem_univ _) h

/-- The gated product is the gate times the product. -/
theorem gatedProduct_eq (he : Named e) (t : Fin 1024) (h0 : top (score x r t) ≠ ⊥) (h1 : top (score x r t) ≠ ⊤) (E : Vec Ideal S1x256x512 .f32) (h : Fin 512) :
    gatedProduct x r e t E h = soft (score x r t) ⟨nam e t, he t⟩ * ∑ k : Fin 256, x (ix2 t k) * E (ix3 0 k h) := by
  obtain ⟨g, hg, hs⟩ := soft_real (score x r t) h0 h1 ⟨nam e t, he t⟩
  unfold gatedProduct
  rw [gate_eq x r he t, hs, mul_sum_real g hg]
  refine Finset.sum_congr rfl fun k _ => ?_
  rw [mul_comm (x (ix2 t k)) (g : EReal), mul_assoc]

end Cert.Moe
-- ==== Proof.Routes.lean ====
/-
The precondition decoded: every token names an expert below 64, at most 128 tokens go to any one device, and every
token's largest router score is finite.
-/
module

public import proofs.«01_k».proof.Proof.Gate
public import proofs.«01_k».proof.Pre_routes_fit_KernelIdeal
public import Idealize.ShloMosaic.Lib.IndicatorCount

@[expose] public section

noncomputable section

namespace Cert.Moe

open Idealize.ShloMosaic Idealize.SL.Sem
open scoped BigOperators

theorem andi_one (a b : BitVec 1) : IntOp.andi a b = 1#1 ↔ a = 1#1 ∧ b = 1#1 := by revert a b; decide

/-- The test that a name is of device `d`. -/
abbrev thereBit (v : BitVec 32) (d : Fin 16) : BitVec 1 :=
  IntOp.andi (IntOp.cmpi .sge v (IntOp.muli 4#32 (BitVec.ofNat 32 d.val))) (IntOp.cmpi .slt v (IntOp.addi (IntOp.muli 4#32 (BitVec.ofNat 32 d.val)) 4#32))

theorem thereBit_iff : ∀ (a : Fin 64) (d : Fin 16), thereBit (BitVec.ofNat 32 a.val) d = 1#1 ↔ a.val / 4 = d.val := by decide +kernel

theorem name_lt (v : BitVec 32) (h : IntOp.andi (IntOp.cmpi .sge v 0#32) (IntOp.cmpi .slt v 64#32) = 1#1) : v.toNat < 64 := by
  rw [andi_one, WordCmp.cmpi_sge_zero, WordCmp.cmpi_slt_eq] at h
  obtain ⟨h0, h1⟩ := h
  rw [WordCmp.ofBool_decide_eq_one_iff] at h0 h1
  rw [WordCmp.toInt_eq_toNat_of_lt_half h0] at h1
  have e : (64#32 : BitVec 32).toInt = 64 := by decide
  omega

/-- A finite magnitude. -/
theorem finite_of_abs (y : EReal) (h : FloatOps.absf (F := Ideal) (φ := .f32) y < Ideal.ofBits FTy.f32 0x7F800000#32) : y ≠ ⊥ ∧ y ≠ ⊤ := by
  rw [pinf] at h
  have h' : max y (-y) < (⊤ : EReal) := h
  rw [max_lt_iff] at h'
  refine ⟨?_, h'.1.ne⟩
  rintro rfl
  simp at h'

section Pre
open Cert.Pre_routes_fit_KernelIdeal

variable [Cert.Pre_routes_fit_KernelIdeal.Facts] (x : FVec Ideal S1024x256 .f32) (r : FVec Ideal S256x64 .f32) (e : IVec S1024x1 32)
  (E : FVec Ideal S4x256x512 .f32) (w : FVec Ideal S256x512 .f32)

/-- The precondition read at a token and a device. -/
theorem pre_apply (t : Fin 1024) (d : Fin 16) : fn (F := Ideal) x r e E w (ix2 t d)
    = IntOp.andi (IntOp.andi (IntOp.andi (IntOp.cmpi .sge (e (ix2 t 0)) 0#32) (IntOp.cmpi .slt (e (ix2 t 0)) 64#32))
        (BitVec.ofBool (decide (FloatOps.absf (F := Ideal) (φ := .f32) (top (score x r t)) < Ideal.ofBits FTy.f32 0x7F800000#32))))
      (IntOp.cmpi .sle (Finset.univ.fold IntOp.addi (0#32) fun u : Fin 1024 => (thereBit (e (ix2 u 0)) d).setWidth 32) 128#32) := by
  unfold top score
  pointwise [fn, fn_part1]

/-- What the precondition states. -/
theorem of_pre (h : fn (F := Ideal) x r e E w = fun _ => 1#1) :
    Named e ∧ (∀ t, cnt e t ≤ 128) ∧ ∀ t, top (score x r t) ≠ ⊥ ∧ top (score x r t) ≠ ⊤ := by
  have at_ := fun (t : Fin 1024) (d : Fin 16) => (andi_one _ _).mp ((pre_apply x r e E w t d).symm.trans (congrFun h (ix2 t d)))
  have named : Named e := fun t => name_lt _ ((andi_one _ _).mp (at_ t 0).1).1
  refine ⟨named, fun t => ?_, fun t => finite_of_abs _ ((WordCmp.ofBool_decide_eq_one_iff _).mp ((andi_one _ _).mp (at_ t 0).1).2)⟩
  have hc := (at_ t ⟨dst e t, dst_lt named t⟩).2
  rw [IndicatorCount.fold_addi_setWidth_eq_card] at hc
  have bound : (Finset.univ.filter fun u : Fin 1024 => thereBit (e (ix2 u 0)) ⟨dst e t, dst_lt named t⟩ = 1#1).card ≤ 1024 :=
    (Finset.card_le_univ _).trans (by simp)
  have hc' := (WordCmp.cmpi_sle_ofNat_eq_one_iff (w := 32) (by omega) (by decide)).mp hc
  refine le_trans (Finset.card_le_card fun u hu => ?_) hc'
  rw [Finset.mem_filter] at hu ⊢
  refine ⟨Finset.mem_univ _, ?_⟩
  rw [word_eq named u, thereBit_iff]
  exact hu.2.2

end Pre

end Cert.Moe
-- ==== Proof.Chosen.lean ====
/-
The reference's result read at an element, for names below 64: the product of the token's features with the shared
weights plus its gate times the product with the weights of the expert it names. The reference gathers the gate and the
weights at the name under masks that hold for such names.
-/
module

public import proofs.«01_k».proof.Proof.Gate
public import proofs.«01_k».proof.Proof.Gen.ReferenceIdeal.Read

@[expose] public section

noncomputable section

namespace Cert.Moe.Ref

open Cert.ReferenceIdeal Cert.ReferenceIdeal.Gen Cert.ReferenceIdeal.Read
open Idealize.ShloMosaic Idealize.SL.Sem
open scoped BigOperators

variable (x : Vec Ideal S16384x256 .f32) (r : Vec Ideal S256x64 .f32) (n : Vec Ideal S16384x1 .i32) (E : Vec Ideal S64x256x512 .f32)
  (w : Vec Ideal S256x512 .f32)

/-- The router's scores of a token. -/
abbrev scores (i : Fin 16384) (l : Fin 64) : EReal := ∑ k : Fin 256, x (ix2 i k) * r (ix2 k l)

theorem probs_apply (i : Fin 16384) (l : Fin 64) : val_main_v9 (F := Ideal) x r (ix2 i l) = soft (scores x r i) l := by
  unfold soft top scores
  pointwise [val_main_v9, val_main_v8, val_main_v7, val_main_v6, val_main_v5, val_main_v4, val_main_v3, val_main_v2, val_main_v1, val_main_v0, val_main_cst, val_main_cst_0]

/-- The gather of one element of each row: the element its word names. -/
theorem pick_apply (P : (⟨2, ![16384, 64]⟩ : Shape).Idx → EReal) (v : IVec S16384x1x1 32) (i : Fin 16384) (a : Fin 64)
    (h : v (ix3 i 0 0) = BitVec.ofNat 32 a.val) :
    Host.gather gather_S16384x64_S16384x1x1_S16384x1_n_1_0_0_1_2_11 P v (ix2 i 0) = P (ix2 i a) := by
  unfold Host.gather
  congr 1
  funext b
  refine Fin.ext ?_
  show gather_S16384x64_S16384x1x1_S16384x1_n_1_0_0_1_2_11.start (ix2 i 0) v b + gather_S16384x64_S16384x1x1_S16384x1_n_1_0_0_1_2_11.batchCoord (ix2 i 0) b
    + gather_S16384x64_S16384x1x1_S16384x1_n_1_0_0_1_2_11.offCoord (ix2 i 0) b = _
  obtain rfl | rfl : b = (0 : Fin 2) ∨ b = (1 : Fin 2) := by
    match b with
    | ⟨0, _⟩ => exact Or.inl rfl
    | ⟨1, _⟩ => exact Or.inr rfl
  · rw [GatherDims.start_batching _ _ _ _ (List.mem_singleton.mpr rfl),
      GatherDims.offCoord_eq_zero _ _ _ (fun hk => ((GatherDims.mem_sKept _ _).mp hk).2 (List.mem_singleton.mpr rfl))]
    simp only [Nat.zero_add, Nat.add_zero]
    unfold GatherDims.batchCoord
    rw [dif_pos (show (0 : Fin 2) ∈ gather_S16384x64_S16384x1x1_S16384x1_n_1_0_0_1_2_11.operandBatchingDims from List.mem_singleton.mpr rfl)]
    rfl
  · rw [GatherDims.batchCoord_eq_zero _ _ _ (by decide),
      GatherDims.offCoord_eq_zero _ _ _ (fun hk => ((GatherDims.mem_sKept _ _).mp hk).1 (List.mem_singleton.mpr rfl))]
    simp only [Nat.add_zero]
    unfold GatherDims.start
    rw [dif_pos (show (1 : Fin 2) ∈ gather_S16384x64_S16384x1x1_S16384x1_n_1_0_0_1_2_11.startIndexMap from List.mem_singleton.mpr rfl)]
    have hi : gather_S16384x64_S16384x1x1_S16384x1_n_1_0_0_1_2_11.siIdx (ix2 i 0)
        ⟨List.idxOf (1 : Fin 2) gather_S16384x64_S16384x1x1_S16384x1_n_1_0_0_1_2_11.startIndexMap, List.idxOf_lt_length_iff.2 (List.mem_singleton.mpr rfl)⟩ = ix3 i 0 0 := by
      funext d
      refine Fin.ext ?_
      match d with
      | ⟨0, _⟩ => rfl
      | ⟨1, _⟩ => rfl
      | ⟨2, _⟩ => rfl
    show min (v (gather_S16384x64_S16384x1x1_S16384x1_n_1_0_0_1_2_11.siIdx (ix2 i 0) _)).toInt.toNat 63 = a.val
    rw [hi, h, WordCmp.toInt_ofNat_of_lt (by have := a.isLt; omega)]
    have := a.isLt
    omega

/-- The gather of one expert's weights for each token: those its word names. -/
theorem take_apply (v : IVec S16384x1 32) (i : Fin 16384) (a : Fin 64) (h : v (ix2 i 0) = BitVec.ofNat 32 a.val) (k : Fin 256) (l : Fin 512) :
    Host.gather gather_S64x256x512_S16384x1_S16384x256x512_12_0_n_n_0_1_1256512 E v (ix3 i k l) = E (ix3 a k l) := by
  unfold Host.gather
  congr 1
  funext b
  refine Fin.ext ?_
  show gather_S64x256x512_S16384x1_S16384x256x512_12_0_n_n_0_1_1256512.start (ix3 i k l) v b
    + gather_S64x256x512_S16384x1_S16384x256x512_12_0_n_n_0_1_1256512.batchCoord (ix3 i k l) b
    + gather_S64x256x512_S16384x1_S16384x256x512_12_0_n_n_0_1_1256512.offCoord (ix3 i k l) b = _
  rw [GatherDims.batchCoord_eq_zero _ _ _ (List.not_mem_nil)]
  obtain rfl | rfl | rfl : b = (0 : Fin 3) ∨ b = (1 : Fin 3) ∨ b = (2 : Fin 3) := by
    match b with
    | ⟨0, _⟩ => exact Or.inl rfl
    | ⟨1, _⟩ => exact Or.inr (Or.inl rfl)
    | ⟨2, _⟩ => exact Or.inr (Or.inr rfl)
  · rw [GatherDims.offCoord_eq_zero _ _ _ (fun hk => ((GatherDims.mem_sKept _ _).mp hk).1 (List.mem_singleton.mpr rfl))]
    simp only [Nat.add_zero]
    unfold GatherDims.start
    rw [dif_pos (show (0 : Fin 3) ∈ gather_S64x256x512_S16384x1_S16384x256x512_12_0_n_n_0_1_1256512.startIndexMap from List.mem_singleton.mpr rfl)]
    have hi : gather_S64x256x512_S16384x1_S16384x256x512_12_0_n_n_0_1_1256512.siIdx (ix3 i k l)
        ⟨List.idxOf (0 : Fin 3) gather_S64x256x512_S16384x1_S16384x256x512_12_0_n_n_0_1_1256512.startIndexMap, List.idxOf_lt_length_iff.2 (List.mem_singleton.mpr rfl)⟩ = ix2 i 0 := by
      funext d
      refine Fin.ext ?_
      match d with
      | ⟨0, _⟩ => rfl
      | ⟨1, _⟩ => rfl
    show min (v (gather_S64x256x512_S16384x1_S16384x256x512_12_0_n_n_0_1_1256512.siIdx (ix3 i k l) _)).toInt.toNat 63 = a.val
    rw [hi, h, WordCmp.toInt_ofNat_of_lt (by have := a.isLt; omega)]
    have := a.isLt
    omega
  · unfold GatherDims.start
    rw [dif_neg (show (1 : Fin 3) ∉ gather_S64x256x512_S16384x1_S16384x256x512_12_0_n_n_0_1_1256512.startIndexMap by decide)]
    unfold GatherDims.offCoord
    rw [dif_pos (show (1 : Fin 3) ∈ gather_S64x256x512_S16384x1_S16384x256x512_12_0_n_n_0_1_1256512.sKept by decide)]
    show 0 + 0 + k.val = k.val
    omega
  · unfold GatherDims.start
    rw [dif_neg (show (2 : Fin 3) ∉ gather_S64x256x512_S16384x1_S16384x256x512_12_0_n_n_0_1_1256512.startIndexMap by decide)]
    unfold GatherDims.offCoord
    rw [dif_pos (show (2 : Fin 3) ∈ gather_S64x256x512_S16384x1_S16384x256x512_12_0_n_n_0_1_1256512.sKept by decide)]
    show 0 + 0 + l.val = l.val
    omega

/-- A word naming an expert is not moved, -/
theorem kept_word (a : Fin 64) : Scalar.select (IntOp.cmpi .slt (BitVec.ofNat 32 a.val) 0#32) (IntOp.addi (BitVec.ofNat 32 a.val) 64#32) (BitVec.ofNat 32 a.val)
    = BitVec.ofNat 32 a.val := by
  revert a; decide +kernel

/-- and its mask holds. -/
theorem mask_word (a : Fin 64) : IntOp.andi (IntOp.cmpi .sge (BitVec.ofNat 32 a.val) 0#32) (IntOp.cmpi .sle (BitVec.ofNat 32 a.val) 63#32) = 1#1 := by
  revert a; decide +kernel

theorem fold_one (p : Fin 1 → BitVec 1) (h : ∀ z, p z = 1#1) : Finset.fold IntOp.andi (1#1) p Finset.univ = 1#1 := by
  rw [show p = fun _ => 1#1 from funext h]
  decide +kernel

variable (i : Fin 16384) (a : Fin 64) (hn : n (ix2 i 0) = BitVec.ofNat 32 a.val)

include hn

theorem word0_apply (z : Fin 1) : val_main_call0_v5 (F := Ideal) n (ix3 i 0 z) = BitVec.ofNat 32 a.val := by
  obtain rfl : z = 0 := Subsingleton.elim _ _
  rw [← kept_word a, ← hn]
  pointwise [val_main_call0_v5, val_main_call0_v4, val_main_call0_v3, val_main_call0_v2, val_main_call0_v1, val_main_call0_v0, val_main_call0_c, val_main_call0_c_0]

theorem mask0_apply : val_main_call0_v12 (F := Ideal) n (ix2 i 0) = 1#1 := by
  pointwise [val_main_call0_v12, val_main_call0_v11, val_main_call0_v10, val_main_call0_v9, val_main_call0_v8, val_main_call0_v7, val_main_call0_v6, val_main_call0_c_1, val_main_call0_c_2, val_main_call0_c_3]
  refine fold_one _ fun z => ?_
  rw [word0_apply n i a hn z, mask_word]

theorem word1_apply (z : Fin 1) : val_main_call1_v5 (F := Ideal) n (ix2 i z) = BitVec.ofNat 32 a.val := by
  obtain rfl : z = 0 := Subsingleton.elim _ _
  rw [← kept_word a, ← hn]
  pointwise [val_main_call1_v5, val_main_call1_v4, val_main_call1_v3, val_main_call1_v2, val_main_call1_v1, val_main_call1_v0, val_main_call1_c, val_main_call1_c_0, val_main_v12]

theorem mask1_apply : val_main_call1_v12 (F := Ideal) n (ix1 i) = 1#1 := by
  pointwise [val_main_call1_v12, val_main_call1_v11, val_main_call1_v10, val_main_call1_v9, val_main_call1_v8, val_main_call1_v7, val_main_call1_v6, val_main_call1_c_1, val_main_call1_c_2, val_main_call1_c_3]
  refine fold_one _ fun z => ?_
  rw [word1_apply n i a hn z, mask_word]

/-- The weights gathered for a token. -/
theorem chosen_apply (k : Fin 256) (h : Fin 512) : val_main_v13 (F := Ideal) n E (ix3 i k h) = E (ix3 a k h) := by
  pointwise [val_main_v13, val_main_call1_v14, val_main_call1_v15, val_main_call1_cst]
  rw [mask1_apply n i a hn, ← take_apply E _ i a (word1_apply n i a hn 0) k h]
  rfl

/-- The reference's result. -/
theorem out_apply (h : Fin 512) : val_main_v17 (F := Ideal) x r n E w (ix2 i h)
    = (∑ k : Fin 256, x (ix2 i k) * w (ix2 k h)) + soft (scores x r i) a * ∑ k : Fin 256, x (ix2 i k) * E (ix3 a k h) := by
  pointwise [val_main_v17, val_main_v16, val_main_v15, val_main_v14, val_main_v10, val_main_v11, val_main_call0_v14, val_main_call0_cst]
  simp only [chosen_apply n E i a hn]
  rw [mask0_apply n i a hn, ← probs_apply, ← pick_apply (val_main_v9 (F := Ideal) x r) _ i a (word0_apply n i a hn 0)]
  rfl

end Cert.Moe.Ref
-- ==== Proof.Algebraic.lean ====
/-
The kernel computes the reference's function: at each token and column of its block a device's result is the reference's
at that token of the whole.
-/
module

public import proofs.«01_k».proof.Defs
public import proofs.«01_k».proof.Proof.Whole
public import proofs.«01_k».proof.Proof.Routes
public import proofs.«01_k».proof.Proof.Chosen
public import proofs.«01_k».proof.Proof.Frames
public import proofs.«01_k».proof.Proof.Gen.Pre_routes_fit_KernelIdeal
public import proofs.«01_k».proof.Proof.Gen.Pre_routes_fit_ReferenceIdeal

@[expose] public section

noncomputable section

namespace Cert.Moe

open Cert.KernelIdeal Cert.KernelIdeal.Gen
open Idealize.ShloMosaic Idealize.SL.Sem
open scoped BigOperators

/-- The token of the whole that is device `c`'s token `t`, and the expert that is device `d`'s expert `j`. -/
abbrev row (c : Dev nD) (t : Fin 1024) : Fin 16384 := ⟨c.val * 1024 + t.val, by have : c.val < 16 := c.isLt; have := t.isLt; omega⟩
abbrev exp (d : Dev nD) (j : Fin 4) : Fin 64 := ⟨d.val * 4 + j.val, by have : d.val < 16 := d.isLt; have := j.isLt; omega⟩

theorem idx_rows {n : ℕ} (h : Layout.Tiles ⟨2, ![1024, n]⟩ ⟨2, ![16384, n]⟩ 0 16) (c : Dev nD) (t : Fin 1024) (k : Fin n) :
    h.idx c (ix2 t k) = ix2 (row c t) k := by
  funext a
  refine Fin.ext ?_
  match a with
  | ⟨0, _⟩ => rfl
  | ⟨1, _⟩ => rfl

theorem idx_experts (h : Layout.Tiles ⟨3, ![4, 256, 512]⟩ ⟨3, ![64, 256, 512]⟩ 0 16) (d : Dev nD) (j : Fin 4) (k : Fin 256) (l : Fin 512) :
    h.idx d (ix3 j k l) = ix3 (exp d j) k l := by
  funext a
  refine Fin.ext ?_
  match a with
  | ⟨0, _⟩ => rfl
  | ⟨1, _⟩ => rfl
  | ⟨2, _⟩ => rfl

variable (m : (ℓ : Loc nD τ sig) → Buf (Elt Ideal) ℓ)
  (X : Vec Ideal ⟨2, ![16384, 256]⟩ .f32) (R : Vec Ideal ⟨2, ![256, 64]⟩ .f32) (N : Vec Ideal ⟨2, ![16384, 1]⟩ .i32)
  (E : Vec Ideal ⟨3, ![64, 256, 512]⟩ .f32) (W : Vec Ideal ⟨2, ![256, 512]⟩ .f32)

/-- The memory holds the devices' blocks of the reference's arguments. -/
structure Holds : Prop where
  x : ∀ (c : Dev nD) t k, xOf m c (ix2 t k) = X (ix2 (row c t) k)
  r : ∀ (c : Dev nD), rOf m c = R
  i : ∀ (c : Dev nD) t, iOf m c (ix2 t 0) = N (ix2 (row c t) 0)
  e : ∀ (d : Dev nD) j k h, expertOf m d j (ix3 0 k h) = E (ix3 (exp d j) k h)
  w : ∀ (c : Dev nD), wOf m c = W

/-- One element of the result. -/
theorem element_eq (H : Holds m X R N E W) (c : Dev nD) (he : Named (iOf m c)) (fits : ∀ t, cnt (iOf m c) t ≤ 128)
    (fin : ∀ t, top (score (xOf m c) (rOf m c) t) ≠ ⊥ ∧ top (score (xOf m c) (rOf m c) t) ≠ ⊤) (t : Fin 1024) (h : Fin 512) :
    resultOf m c (ix2 t h) = Cert.ReferenceIdeal.Read.val_main_v17 (F := Ideal) X R N E W (ix2 (row c t) h) := by
  have hn : N (ix2 (row c t) 0) = BitVec.ofNat 32 (⟨nam (iOf m c) t, he t⟩ : Fin 64).val := (H.i c t).symm.trans (word_eq he t)
  have hexp : exp ⟨dst (iOf m c) t, dst_lt he t⟩ ⟨loc (iOf m c) t, by show nam (iOf m c) t % 4 < 4; omega⟩ = ⟨nam (iOf m c) t, he t⟩ :=
    Fin.ext (by show nam (iOf m c) t / 4 * 4 + nam (iOf m c) t % 4 = nam (iOf m c) t; omega)
  have hs : score (xOf m c) (rOf m c) t = Ref.scores X R (row c t) := by
    funext l
    unfold score Ref.scores
    rw [H.r c]
    exact Finset.sum_congr rfl fun k _ => by rw [H.x c t k]
  rw [resultOf_apply m c he fits t h, gatedProduct_eq _ _ he t (fin t).1 (fin t).2, Ref.out_apply X R N E W (row c t) _ hn h, hs, H.w c]
  congr 1
  · exact Finset.sum_congr rfl fun k _ => by rw [H.x c t k]
  · congr 1
    refine Finset.sum_congr rfl fun k _ => ?_
    rw [H.x c t k, H.e, hexp]

instance : Cert.Pre_routes_fit_KernelIdeal.Facts := Cert.Pre_routes_fit_KernelIdeal.Gen.facts

theorem algebraic : Cert.algebraic_KernelIdeal_ReferenceIdeal_pre_routes_fit_KernelIdeal := by
  intro m g m' g' pre lay
  have H : Holds m (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)) := by
    refine ⟨fun c t k => ?_, fun c => ?_, fun c t => ?_, fun d j k h => ?_, fun c => ?_⟩
    · rw [xOf_eq, (lay c).1, Layout.block_apply, idx_rows]
    · rw [rOf_eq, (lay c).2.1]
    · rw [iOf_eq, (lay c).2.2.1, Layout.block_apply, idx_rows]
    · rw [expert_apply, eOf_eq, (lay d).2.2.2.1, Layout.block_apply, idx_experts]
    · rw [wOf_eq, (lay c).2.2.2.2]
  have P := fun c : Dev nD => of_pre _ _ _ _ _ (pre c)
  refine ⟨Cert.ReferenceIdeal.Value.res_main_v17 m' 0, ?_, ?_⟩
  · refine (θ_run Cert.KernelIdeal.defs _ _).mono (fun r h c => ⟨?_, (h.1 c).2⟩) (run_values (F := Ideal) m g)
    have h0 := (h.1 c).1
    rw [out_eq] at h0
    rw [h0]
    funext y
    obtain ⟨t, l, rfl⟩ : ∃ (t : Fin 1024) (l : Fin 512), y = ix2 t l := ⟨y 0, y 1, by funext a; match a with | ⟨0, _⟩ => rfl | ⟨1, _⟩ => rfl⟩
    have hP := P c
    rw [← xOf_eq m c, ← rOf_eq m c, ← iOf_eq m c] at hP
    rw [Layout.block_apply, idx_rows, Cert.ReferenceIdeal.Read.val_main_v17_eq]
    exact element_eq m _ _ _ _ _ H c hP.1 hP.2.1 hP.2.2 t l
  · exact (θ_run Cert.ReferenceIdeal.defs _ _).mono (fun r h => h 0) (Cert.ReferenceIdeal.Value.run (F := Ideal) m' g')

end Cert.Moe
-- ==== Proof.lean ====
/- The claims of this directory, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_routes_fit_KernelIdeal
public import proofs.«01_k».proof.Proof.Gen.Pre_routes_fit_ReferenceIdeal
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Pre_routes_fit_KernelIdeal.Gen.facts, Cert.Pre_routes_fit_ReferenceIdeal.Gen.facts,
  Cert.Moe.frame_kernel, Cert.Moe.frame_ideal, fun m ρ _ => Cert.Moe.frame_ideal m ρ trivial,
  Cert.Moe.frame_reference, fun m ρ _ => Cert.Moe.frame_reference m ρ trivial, trivial, Cert.Moe.algebraic⟩

end Cert.Proof

end
